-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S256x2048 : Shape := ⟨2, ![256, 2048]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x1 : Shape := ⟨2, ![1, 1]⟩
abbrev S2x262144 : Shape := ⟨2, ![2, 262144]⟩
abbrev S2 : Shape := ⟨1, ![2]⟩
abbrev S2x4096x64 : Shape := ⟨3, ![2, 4096, 64]⟩
abbrev S1x256 : Shape := ⟨2, ![1, 256]⟩
abbrev S1x128 : Shape := ⟨2, ![1, 128]⟩
abbrev S1x64 : Shape := ⟨2, ![1, 64]⟩
abbrev S512x1024 : Shape := ⟨2, ![512, 1024]⟩
abbrev S256x1024 : Shape := ⟨2, ![256, 1024]⟩
abbrev S2x256x64 : Shape := ⟨3, ![2, 256, 64]⟩
abbrev S2048x256 : Shape := ⟨2, ![2048, 256]⟩
abbrev S2048x64 : Shape := ⟨2, ![2048, 64]⟩
abbrev S4x256x2048 : Shape := ⟨3, ![4, 256, 2048]⟩
abbrev S3x4 : Shape := ⟨2, ![3, 4]⟩
abbrev S512x256 : Shape := ⟨2, ![512, 256]⟩
abbrev S2048x128 : Shape := ⟨2, ![2048, 128]⟩
abbrev S_ : Shape := ⟨0, ![]⟩
abbrev S1x256x2048 : Shape := ⟨3, ![1, 256, 2048]⟩
abbrev S1 : Shape := ⟨1, ![1]⟩
abbrev S256x1 : Shape := ⟨2, ![256, 1]⟩
abbrev S256x64 : Shape := ⟨2, ![256, 64]⟩
abbrev S1x256x64 : Shape := ⟨3, ![1, 256, 64]⟩
abbrev S1x1x1 : Shape := ⟨3, ![1, 1, 1]⟩
abbrev S1x2 : Shape := ⟨2, ![1, 2]⟩

abbrev nBuf : Space → Nat
  | .hbm => 54
  | .vmem => 45
  | .smem => 3
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S256x2048, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S256x2048, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S128x256, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S64x128, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x1, .f32⟩
  | .hbm, ⟨29, _⟩ => ⟨S2048x2048, .f32⟩
  | .hbm, ⟨30, _⟩ => ⟨S2048x2048, .f32⟩
  | .hbm, ⟨31, _⟩ => ⟨S2x262144, .f32⟩
  | .hbm, ⟨32, _⟩ => ⟨S2, .f32⟩
  | .hbm, ⟨33, _⟩ => ⟨S2x4096x64, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x128, .f32⟩
  | .hbm, ⟨53, _⟩ => ⟨S1x2, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S128x256, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S64x128, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S256x1024, .f32⟩
  | .local _ .vmem, ⟨22, _⟩ => ⟨S256x1024, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S128x256, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S64x128, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2x256x64, .f32⟩
  | .local _ .vmem, ⟨35, _⟩ => ⟨S2x256x64, .f32⟩
  | .local _ .vmem, ⟨36, _⟩ => ⟨S2x256x64, .f32⟩
  | .local _ .vmem, ⟨37, _⟩ => ⟨S2x256x64, .f32⟩
  | .local _ .vmem, ⟨38, _⟩ => ⟨S1x128, .f32⟩
  | .local _ .vmem, ⟨39, _⟩ => ⟨S2048x256, .f32⟩
  | .local _ .vmem, ⟨40, _⟩ => ⟨S2048x64, .f32⟩
  | .local _ .vmem, ⟨41, _⟩ => ⟨S2048x64, .f32⟩
  | .local _ .vmem, ⟨42, _⟩ => ⟨S4x256x2048, .f32⟩
  | .local _ .vmem, ⟨43, _⟩ => ⟨S4x256x2048, .f32⟩
  | .local _ .vmem, ⟨44, _⟩ => ⟨S4x256x2048, .f32⟩
  | .local _ .smem, ⟨0, _⟩ => ⟨S1x1, .f32⟩
  | .local _ .smem, ⟨1, _⟩ => ⟨S2, .f32⟩
  | .local _ .smem, ⟨2, _⟩ => ⟨S2, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg30_1 : Ref sig .tc := ⟨.vmem, 35, rfl⟩
abbrev cc0_stg31_0 : Ref sig .tc := ⟨.vmem, 36, rfl⟩
abbrev cc0_stg31_1 : Ref sig .tc := ⟨.vmem, 37, rfl⟩
abbrev cc0_stg34_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_stg32_0 : Ref sig .tc := ⟨.smem, 0, rfl⟩
abbrev cc0_stg33_0 : Ref sig .tc := ⟨.smem, 1, rfl⟩
abbrev cc0_scratch6 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem30_1 : DmaSem sig := 35
abbrev cc0_sem31_0 : DmaSem sig := 36
abbrev cc0_sem31_1 : DmaSem sig := 37
abbrev cc0_sem32_0 : DmaSem sig := 38
abbrev cc0_sem33_0 : DmaSem sig := 39
abbrev cc0_sem34_0 : DmaSem sig := 40

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v28 : BitVec 32 := Scalar.muli arg0 c512_i32
  let v29 : Index := Scalar.indexCast v28
  let c0_16 : Index := 0#32
  ![v29.toNat, 0]
def k0_cond3 (i : grid0.Coords) : BitVec 1 :=
  let arg0 : BitVec 32 := BitVec.ofNat 32 (i 0).val
  let c4_i32_1 : BitVec 32 := 4#32
  let v6 : BitVec 1 := Scalar.cmpi .sge arg0 c4_i32_1
  let c8_i32 : BitVec 32 := 8#32
  let v7 : BitVec 1 := Scalar.cmpi .slt arg0 c8_i32
  let v8 : BitVec 1 := Scalar.andi v6 v7
  let v9 : BitVec 32 := Scalar.extui v8
  let c0_i32_2 : BitVec 32 := 0#32
  let v10 : BitVec 1 := Scalar.cmpi .ne v9 c0_i32_2
  v10

def k0_off2 (i : grid0.Coords) : Fin 2 → Nat :=
  let arg0 : BitVec 32 := BitVec.ofNat 32 (i 0).val
  let c4_i32_16 : BitVec 32 := 4#32
  let v28 : BitVec 32 := Scalar.subi arg0 c4_i32_16
  let c512_i32 : BitVec 32 := 512#32
  let v29 : BitVec 32 := Scalar.muli v28 c512_i32
  let v30 : Index := Scalar.indexCast v29
  let c0_17 : Index := 0#32
  ![v30.toNat, 0]
def k0_off3 (i : grid0.Coords) : Fin 2 → Nat :=
  let c0_i32_19 : BitVec 32 := 0#32
  let arg0 : BitVec 32 := BitVec.ofNat 32 (i 0).val
  let c4_i32_18 : BitVec 32 := 4#32
  let v34 : BitVec 32 := Scalar.subi arg0 c4_i32_18
  ![0, v34.toNat]
def k0_off4 (i : grid0.Coords) : Fin 3 → Nat :=
  let arg0 : BitVec 32 := BitVec.ofNat 32 (i 0).val
  let c4_i32_18 : BitVec 32 := 4#32
  let v34 : BitVec 32 := Scalar.subi arg0 c4_i32_18
  let c0_i32_20 : BitVec 32 := 0#32
  let c0_i32_21 : BitVec 32 := 0#32
  ![v34.toNat, 0, 0]
def k0_off5 (i : grid0.Coords) : Fin 2 → Nat :=
  let arg0 : BitVec 32 := BitVec.ofNat 32 (i 0).val
  let c4_i32_18 : BitVec 32 := 4#32
  let v34 : BitVec 32 := Scalar.subi arg0 c4_i32_18
  let c256_i32 : BitVec 32 := 256#32
  let v35 : BitVec 32 := Scalar.muli v34 c256_i32
  let c0_i32_22 : BitVec 32 := 0#32
  ![v35.toNat, 0]
def k0_off6 (i : grid0.Coords) : Fin 2 → Nat :=
  let c1_i32 : BitVec 32 := 1#32
  let arg0 : BitVec 32 := BitVec.ofNat 32 (i 0).val
  let c4_i32_18 : BitVec 32 := 4#32
  let v34 : BitVec 32 := Scalar.subi arg0 c4_i32_18
  ![1, v34.toNat]
def k0_off7 (i : grid0.Coords) : Fin 2 → Nat :=
  let c2_i32 : BitVec 32 := 2#32
  let arg0 : BitVec 32 := BitVec.ofNat 32 (i 0).val
  let c4_i32_18 : BitVec 32 := 4#32
  let v34 : BitVec 32 := Scalar.subi arg0 c4_i32_18
  ![2, v34.toNat]
def k0_cond5 (i : grid0.Coords) : BitVec 1 :=
  let arg0 : BitVec 32 := BitVec.ofNat 32 (i 0).val
  let c8_i32_4 : BitVec 32 := 8#32
  let v14 : BitVec 1 := Scalar.cmpi .sge arg0 c8_i32_4
  let v15 : BitVec 32 := Scalar.extui v14
  let c0_i32_5 : BitVec 32 := 0#32
  let v16 : BitVec 1 := Scalar.cmpi .ne v15 c0_i32_5
  v16

def k0_off8 (i : grid0.Coords) : Fin 2 → Nat :=
  let c0_i32_11 : BitVec 32 := 0#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![0, v18.toNat]
def k0_off9 (i : grid0.Coords) : Fin 3 → Nat :=
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  let c0_i32_12 : BitVec 32 := 0#32
  let c0_i32_13 : BitVec 32 := 0#32
  ![v18.toNat, 0, 0]
def k0_off10 (i : grid0.Coords) : Fin 2 → Nat :=
  let arg0 : BitVec 32 := BitVec.ofNat 32 (i 0).val
  let c8_i32_6 : BitVec 32 := 8#32
  let v17 : BitVec 32 := Scalar.subi arg0 c8_i32_6
  let c256_i32 : BitVec 32 := 256#32
  let v23 : BitVec 32 := Scalar.muli v17 c256_i32
  let c0_i32_14 : BitVec 32 := 0#32
  ![v23.toNat, 0]
def k0_off11 (i : grid0.Coords) : Fin 2 → Nat :=
  let c1_i32 : BitVec 32 := 1#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![1, v18.toNat]
def k0_off12 (i : grid0.Coords) : Fin 2 → Nat :=
  let c2_i32 : BitVec 32 := 2#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![2, v18.toNat]
def k0_off13 (i : grid0.Coords) : Fin 3 → Nat :=
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  let v39 : Index := Scalar.indexCast v18
  let c0_21 : Index := 0#32
  let c0_22 : Index := 0#32
  ![v39.toNat, 0, 0]
def k0_off14 (i : grid0.Coords) : Fin 2 → Nat :=
  let arg0 : BitVec 32 := BitVec.ofNat 32 (i 0).val
  let c8_i32_6 : BitVec 32 := 8#32
  let v17 : BitVec 32 := Scalar.subi arg0 c8_i32_6
  let c256_i32_29 : BitVec 32 := 256#32
  let v54 : BitVec 32 := Scalar.muli v17 c256_i32_29
  let v55 : Index := Scalar.indexCast v54
  let c0_30 : Index := 0#32
  ![v55.toNat, 0]
def k0_cond7 (i : grid0.Coords) : BitVec 1 :=
  let arg0 : BitVec 32 := BitVec.ofNat 32 (i 0).val
  let c8_i32_6 : BitVec 32 := 8#32
  let v17 : BitVec 32 := Scalar.subi arg0 c8_i32_6
  let c4_i32_55 : BitVec 32 := 4#32
  let v125 : BitVec 32 := Scalar.addi v17 c4_i32_55
  let c8_i32_56 : BitVec 32 := 8#32
  let v126 : BitVec 1 := Scalar.cmpi .slt v125 c8_i32_56
  let v127 : BitVec 32 := Scalar.extui v126
  let c0_i32_57 : BitVec 32 := 0#32
  let v128 : BitVec 1 := Scalar.cmpi .ne v127 c0_i32_57
  v128

def k0_off15 (i : grid0.Coords) : Fin 2 → Nat :=
  let c0_i32_62 : BitVec 32 := 0#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![0, v18.toNat]
def k0_off16 (i : grid0.Coords) : Fin 3 → Nat :=
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  let c0_i32_63 : BitVec 32 := 0#32
  let c0_i32_64 : BitVec 32 := 0#32
  ![v18.toNat, 0, 0]
def k0_off17 (i : grid0.Coords) : Fin 2 → Nat :=
  let arg0 : BitVec 32 := BitVec.ofNat 32 (i 0).val
  let c8_i32_6 : BitVec 32 := 8#32
  let v17 : BitVec 32 := Scalar.subi arg0 c8_i32_6
  let c4_i32_60 : BitVec 32 := 4#32
  let v132 : BitVec 32 := Scalar.addi v17 c4_i32_60
  let c256_i32_61 : BitVec 32 := 256#32
  let v133 : BitVec 32 := Scalar.muli v132 c256_i32_61
  let c0_i32_65 : BitVec 32 := 0#32
  ![v133.toNat, 0]
def k0_off18 (i : grid0.Coords) : Fin 2 → Nat :=
  let c1_i32_66 : BitVec 32 := 1#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![1, v18.toNat]
def k0_off19 (i : grid0.Coords) : Fin 2 → Nat :=
  let c2_i32_70 : BitVec 32 := 2#32
  let arg0 : BitVec 32 := BitVec.ofNat 32 (i 0).val
  let c8_i32_6 : BitVec 32 := 8#32
  let v17 : BitVec 32 := Scalar.subi arg0 c8_i32_6
  let c4_i32_7 : BitVec 32 := 4#32
  let v18 : BitVec 32 := Scalar.remsi v17 c4_i32_7
  ![2, v18.toNat]
def k0_cond8 (i : grid0.Coords) : BitVec 1 :=
  let arg0 : BitVec 32 := BitVec.ofNat 32 (i 0).val
  let c8_i32_6 : BitVec 32 := 8#32
  let v17 : BitVec 32 := Scalar.subi arg0 c8_i32_6
  let c7_i32_58 : BitVec 32 := 7#32
  let v129 : BitVec 1 := Scalar.cmpi .eq v17 c7_i32_58
  let v130 : BitVec 32 := Scalar.extui v129
  let c0_i32_59 : BitVec 32 := 0#32
  let v131 : BitVec 1 := Scalar.cmpi .ne v130 c0_i32_59
  v131

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c1_i32 : BitVec 32 := 1#32
  let c0_i32_0 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_34 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c8_i32_0 : BitVec 32 := 8#32
  let v3 : BitVec 32 := Scalar.addi v2 c8_i32_0
  let c0_i32_1 : BitVec 32 := 0#32
  let c0_i32_2 : BitVec 32 := 0#32
  let c0_i32_3 : BitVec 32 := 0#32
  ![c0_i32_1.toNat, v3.toNat, c0_i32_2.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S2x256x64 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S2x256x64 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 1 → Memref sig .tc .smem S1x1 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .smem S2 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== ReferenceIdeal.lean ====
abbrev S2048x2048 : Shape := ⟨2, ![2048, 2048]⟩
abbrev S256x2048 : Shape := ⟨2, ![256, 2048]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x1 : Shape := ⟨2, ![1, 1]⟩
abbrev S2x262144 : Shape := ⟨2, ![2, 262144]⟩
abbrev S2 : Shape := ⟨1, ![2]⟩
abbrev S2048x256 : Shape := ⟨2, ![2048, 256]⟩
abbrev S1x256 : Shape := ⟨2, ![1, 256]⟩
abbrev S_ : Shape := ⟨0, ![]⟩
abbrev S256x128 : Shape := ⟨2, ![256, 128]⟩
abbrev S2048x128 : Shape := ⟨2, ![2048, 128]⟩
abbrev S1x128 : Shape := ⟨2, ![1, 128]⟩
abbrev S128x64 : Shape := ⟨2, ![128, 64]⟩
abbrev S2048x64 : Shape := ⟨2, ![2048, 64]⟩
abbrev S1x64 : Shape := ⟨2, ![1, 64]⟩
abbrev S2048 : Shape := ⟨1, ![2048]⟩
abbrev S2048x1 : Shape := ⟨2, ![2048, 1]⟩
abbrev S4096x64 : Shape := ⟨2, ![4096, 64]⟩
abbrev S1x262144 : Shape := ⟨2, ![1, 262144]⟩
abbrev S262144x2 : Shape := ⟨2, ![262144, 2]⟩
abbrev S1x2 : Shape := ⟨2, ![1, 2]⟩
abbrev S1 : Shape := ⟨1, ![1]⟩

abbrev nBuf : Space → Nat
  | .hbm => 395
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S256x2048, .f32⟩
  | 5 => ⟨S256, .f32⟩
  | 6 => ⟨S256, .f32⟩
  | 7 => ⟨S256, .f32⟩
  | 8 => ⟨S128x256, .f32⟩
  | 9 => ⟨S128, .f32⟩
  | 10 => ⟨S128, .f32⟩
  | 11 => ⟨S128, .f32⟩
  | 12 => ⟨S64x128, .f32⟩
  | 13 => ⟨S64, .f32⟩
  | 14 => ⟨S64, .f32⟩
  | 15 => ⟨S64, .f32⟩
  | 16 => ⟨S256x2048, .f32⟩
  | 17 => ⟨S256, .f32⟩
  | 18 => ⟨S256, .f32⟩
  | 19 => ⟨S256, .f32⟩
  | 20 => ⟨S128x256, .f32⟩
  | 21 => ⟨S128, .f32⟩
  | 22 => ⟨S128, .f32⟩
  | 23 => ⟨S128, .f32⟩
  | 24 => ⟨S64x128, .f32⟩
  | 25 => ⟨S64, .f32⟩
  | 26 => ⟨S64, .f32⟩
  | 27 => ⟨S64, .f32⟩
  | 28 => ⟨S1x1, .f32⟩
  | 29 => ⟨S2048x2048, .f32⟩
  | 30 => ⟨S2048x2048, .f32⟩
  | 31 => ⟨S2x262144, .f32⟩
  | 32 => ⟨S2, .f32⟩
  | 33 => ⟨S2048x256, .f32⟩
  | 34 => ⟨S2048x256, .f32⟩
  | 35 => ⟨S1x256, .f32⟩
  | 36 => ⟨S2048x256, .f32⟩
  | 37 => ⟨S2048x256, .f32⟩
  | 38 => ⟨S_, .f32⟩
  | 39 => ⟨S256, .f32⟩
  | 40 => ⟨S1x256, .f32⟩
  | 41 => ⟨S_, .f32⟩
  | 42 => ⟨S1x256, .f32⟩
  | 43 => ⟨S1x256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S2048x256, .f32⟩
  | 52 => ⟨S2048x256, .f32⟩
  | 53 => ⟨S2048x256, .f32⟩
  | 54 => ⟨S_, .f32⟩
  | 55 => ⟨S_, .f32⟩
  | 56 => ⟨S_, .f32⟩
  | 57 => ⟨S_, .f32⟩
  | 58 => ⟨S256, .f32⟩
  | 59 => ⟨S1x256, .f32⟩
  | 60 => ⟨S1x256, .f32⟩
  | 61 => ⟨S1x256, .f32⟩
  | 62 => ⟨S_, .f32⟩
  | 63 => ⟨S_, .i1⟩
  | 64 => ⟨S_, .f32⟩
  | 65 => ⟨S_, .f32⟩
  | 66 => ⟨S1x256, .f32⟩
  | 67 => ⟨S1x256, .f32⟩
  | 68 => ⟨S2048x256, .f32⟩
  | 69 => ⟨S2048x256, .f32⟩
  | 70 => ⟨S_, .f32⟩
  | 71 => ⟨S1x256, .f32⟩
  | 72 => ⟨S1x256, .f32⟩
  | 73 => ⟨S1x256, .f32⟩
  | 74 => ⟨S2048x256, .f32⟩
  | 75 => ⟨S2048x256, .f32⟩
  | 76 => ⟨S1x256, .f32⟩
  | 77 => ⟨S2048x256, .f32⟩
  | 78 => ⟨S2048x256, .f32⟩
  | 79 => ⟨S1x256, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S256x128, .f32⟩
  | 86 => ⟨S2048x128, .f32⟩
  | 87 => ⟨S1x128, .f32⟩
  | 88 => ⟨S2048x128, .f32⟩
  | 89 => ⟨S2048x128, .f32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S2048x128, .f32⟩
  | 104 => ⟨S2048x128, .f32⟩
  | 105 => ⟨S2048x128, .f32⟩
  | 106 => ⟨S_, .f32⟩
  | 107 => ⟨S_, .f32⟩
  | 108 => ⟨S_, .f32⟩
  | 109 => ⟨S_, .f32⟩
  | 110 => ⟨S128, .f32⟩
  | 111 => ⟨S1x128, .f32⟩
  | 112 => ⟨S1x128, .f32⟩
  | 113 => ⟨S1x128, .f32⟩
  | 114 => ⟨S_, .f32⟩
  | 115 => ⟨S_, .i1⟩
  | 116 => ⟨S_, .f32⟩
  | 117 => ⟨S_, .f32⟩
  | 118 => ⟨S1x128, .f32⟩
  | 119 => ⟨S1x128, .f32⟩
  | 120 => ⟨S2048x128, .f32⟩
  | 121 => ⟨S2048x128, .f32⟩
  | 122 => ⟨S_, .f32⟩
  | 123 => ⟨S1x128, .f32⟩
  | 124 => ⟨S1x128, .f32⟩
  | 125 => ⟨S1x128, .f32⟩
  | 126 => ⟨S2048x128, .f32⟩
  | 127 => ⟨S2048x128, .f32⟩
  | _ => ⟨S2048x2048, .f32⟩

abbrev hbmTy0_1 (i : Nat) : BufTy := match i % 128 with
  | 0 => ⟨S1x128, .f32⟩
  | 1 => ⟨S2048x128, .f32⟩
  | 2 => ⟨S2048x128, .f32⟩
  | 3 => ⟨S1x128, .f32⟩
  | 4 => ⟨S2048x128, .f32⟩
  | 5 => ⟨S2048x128, .f32⟩
  | 6 => ⟨S_, .f32⟩
  | 7 => ⟨S2048x128, .f32⟩
  | 8 => ⟨S2048x128, .f32⟩
  | 9 => ⟨S128x64, .f32⟩
  | 10 => ⟨S2048x64, .f32⟩
  | 11 => ⟨S1x64, .f32⟩
  | 12 => ⟨S2048x64, .f32⟩
  | 13 => ⟨S2048x64, .f32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S2048x64, .f32⟩
  | 28 => ⟨S2048x64, .f32⟩
  | 29 => ⟨S2048x64, .f32⟩
  | 30 => ⟨S_, .f32⟩
  | 31 => ⟨S_, .f32⟩
  | 32 => ⟨S_, .f32⟩
  | 33 => ⟨S_, .f32⟩
  | 34 => ⟨S64, .f32⟩
  | 35 => ⟨S1x64, .f32⟩
  | 36 => ⟨S1x64, .f32⟩
  | 37 => ⟨S1x64, .f32⟩
  | 38 => ⟨S_, .f32⟩
  | 39 => ⟨S_, .i1⟩
  | 40 => ⟨S_, .f32⟩
  | 41 => ⟨S_, .f32⟩
  | 42 => ⟨S1x64, .f32⟩
  | 43 => ⟨S1x64, .f32⟩
  | 44 => ⟨S2048x64, .f32⟩
  | 45 => ⟨S2048x64, .f32⟩
  | 46 => ⟨S_, .f32⟩
  | 47 => ⟨S1x64, .f32⟩
  | 48 => ⟨S1x64, .f32⟩
  | 49 => ⟨S1x64, .f32⟩
  | 50 => ⟨S2048x64, .f32⟩
  | 51 => ⟨S2048x64, .f32⟩
  | 52 => ⟨S1x64, .f32⟩
  | 53 => ⟨S2048x64, .f32⟩
  | 54 => ⟨S2048x64, .f32⟩
  | 55 => ⟨S1x64, .f32⟩
  | 56 => ⟨S2048x64, .f32⟩
  | 57 => ⟨S2048x64, .f32⟩
  | 58 => ⟨S_, .f32⟩
  | 59 => ⟨S2048x64, .f32⟩
  | 60 => ⟨S2048x64, .f32⟩
  | 61 => ⟨S2048x256, .f32⟩
  | 62 => ⟨S2048x256, .f32⟩
  | 63 => ⟨S1x256, .f32⟩
  | 64 => ⟨S2048x256, .f32⟩
  | 65 => ⟨S2048x256, .f32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S_, .i32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S2048x256, .f32⟩
  | 80 => ⟨S2048x256, .f32⟩
  | 81 => ⟨S2048x256, .f32⟩
  | 82 => ⟨S_, .f32⟩
  | 83 => ⟨S_, .f32⟩
  | 84 => ⟨S_, .f32⟩
  | 85 => ⟨S_, .f32⟩
  | 86 => ⟨S256, .f32⟩
  | 87 => ⟨S1x256, .f32⟩
  | 88 => ⟨S1x256, .f32⟩
  | 89 => ⟨S1x256, .f32⟩
  | 90 => ⟨S_, .f32⟩
  | 91 => ⟨S_, .i1⟩
  | 92 => ⟨S_, .f32⟩
  | 93 => ⟨S_, .f32⟩
  | 94 => ⟨S1x256, .f32⟩
  | 95 => ⟨S1x256, .f32⟩
  | 96 => ⟨S2048x256, .f32⟩
  | 97 => ⟨S2048x256, .f32⟩
  | 98 => ⟨S_, .f32⟩
  | 99 => ⟨S1x256, .f32⟩
  | 100 => ⟨S1x256, .f32⟩
  | 101 => ⟨S1x256, .f32⟩
  | 102 => ⟨S2048x256, .f32⟩
  | 103 => ⟨S2048x256, .f32⟩
  | 104 => ⟨S1x256, .f32⟩
  | 105 => ⟨S2048x256, .f32⟩
  | 106 => ⟨S2048x256, .f32⟩
  | 107 => ⟨S1x256, .f32⟩
  | 108 => ⟨S2048x256, .f32⟩
  | 109 => ⟨S2048x256, .f32⟩
  | 110 => ⟨S_, .f32⟩
  | 111 => ⟨S2048x256, .f32⟩
  | 112 => ⟨S2048x256, .f32⟩
  | 113 => ⟨S256x128, .f32⟩
  | 114 => ⟨S2048x128, .f32⟩
  | 115 => ⟨S1x128, .f32⟩
  | 116 => ⟨S2048x128, .f32⟩
  | 117 => ⟨S2048x128, .f32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S_, .i32⟩
  | 125 => ⟨S_, .f32⟩
  | 126 => ⟨S128, .f32⟩
  | 127 => ⟨S1x128, .f32⟩
  | _ => ⟨S2048x2048, .f32⟩

abbrev hbmTy0_2 (i : Nat) : BufTy := match i % 128 with
  | 0 => ⟨S_, .f32⟩
  | 1 => ⟨S1x128, .f32⟩
  | 2 => ⟨S1x128, .f32⟩
  | 3 => ⟨S2048x128, .f32⟩
  | 4 => ⟨S2048x128, .f32⟩
  | 5 => ⟨S2048x128, .f32⟩
  | 6 => ⟨S_, .f32⟩
  | 7 => ⟨S_, .f32⟩
  | 8 => ⟨S_, .f32⟩
  | 9 => ⟨S_, .f32⟩
  | 10 => ⟨S128, .f32⟩
  | 11 => ⟨S1x128, .f32⟩
  | 12 => ⟨S1x128, .f32⟩
  | 13 => ⟨S1x128, .f32⟩
  | 14 => ⟨S_, .f32⟩
  | 15 => ⟨S_, .i1⟩
  | 16 => ⟨S_, .f32⟩
  | 17 => ⟨S_, .f32⟩
  | 18 => ⟨S1x128, .f32⟩
  | 19 => ⟨S1x128, .f32⟩
  | 20 => ⟨S2048x128, .f32⟩
  | 21 => ⟨S2048x128, .f32⟩
  | 22 => ⟨S_, .f32⟩
  | 23 => ⟨S1x128, .f32⟩
  | 24 => ⟨S1x128, .f32⟩
  | 25 => ⟨S1x128, .f32⟩
  | 26 => ⟨S2048x128, .f32⟩
  | 27 => ⟨S2048x128, .f32⟩
  | 28 => ⟨S1x128, .f32⟩
  | 29 => ⟨S2048x128, .f32⟩
  | 30 => ⟨S2048x128, .f32⟩
  | 31 => ⟨S1x128, .f32⟩
  | 32 => ⟨S2048x128, .f32⟩
  | 33 => ⟨S2048x128, .f32⟩
  | 34 => ⟨S_, .f32⟩
  | 35 => ⟨S2048x128, .f32⟩
  | 36 => ⟨S2048x128, .f32⟩
  | 37 => ⟨S128x64, .f32⟩
  | 38 => ⟨S2048x64, .f32⟩
  | 39 => ⟨S1x64, .f32⟩
  | 40 => ⟨S2048x64, .f32⟩
  | 41 => ⟨S2048x64, .f32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S2048x64, .f32⟩
  | 56 => ⟨S2048x64, .f32⟩
  | 57 => ⟨S2048x64, .f32⟩
  | 58 => ⟨S_, .f32⟩
  | 59 => ⟨S_, .f32⟩
  | 60 => ⟨S_, .f32⟩
  | 61 => ⟨S_, .f32⟩
  | 62 => ⟨S64, .f32⟩
  | 63 => ⟨S1x64, .f32⟩
  | 64 => ⟨S1x64, .f32⟩
  | 65 => ⟨S1x64, .f32⟩
  | 66 => ⟨S_, .f32⟩
  | 67 => ⟨S_, .i1⟩
  | 68 => ⟨S_, .f32⟩
  | 69 => ⟨S_, .f32⟩
  | 70 => ⟨S1x64, .f32⟩
  | 71 => ⟨S1x64, .f32⟩
  | 72 => ⟨S2048x64, .f32⟩
  | 73 => ⟨S2048x64, .f32⟩
  | 74 => ⟨S_, .f32⟩
  | 75 => ⟨S1x64, .f32⟩
  | 76 => ⟨S1x64, .f32⟩
  | 77 => ⟨S1x64, .f32⟩
  | 78 => ⟨S2048x64, .f32⟩
  | 79 => ⟨S2048x64, .f32⟩
  | 80 => ⟨S1x64, .f32⟩
  | 81 => ⟨S2048x64, .f32⟩
  | 82 => ⟨S2048x64, .f32⟩
  | 83 => ⟨S1x64, .f32⟩
  | 84 => ⟨S2048x64, .f32⟩
  | 85 => ⟨S2048x64, .f32⟩
  | 86 => ⟨S_, .f32⟩
  | 87 => ⟨S2048x64, .f32⟩
  | 88 => ⟨S2048x64, .f32⟩
  | 89 => ⟨S_, .f32⟩
  | 90 => ⟨S2048x2048, .f32⟩
  | 91 => ⟨S2048x2048, .i1⟩
  | 92 => ⟨S2048x2048, .f32⟩
  | 93 => ⟨S_, .f32⟩
  | 94 => ⟨S2048, .f32⟩
  | 95 => ⟨S2048x2048, .f32⟩
  | 96 => ⟨S2048x64, .f32⟩
  | 97 => ⟨S_, .f32⟩
  | 98 => ⟨S2048x64, .f32⟩
  | 99 => ⟨S2048x64, .f32⟩
  | 100 => ⟨S2048x1, .f32⟩
  | 101 => ⟨S2048x64, .f32⟩
  | 102 => ⟨S2048x64, .f32⟩
  | 103 => ⟨S2048x64, .f32⟩
  | 104 => ⟨S_, .f32⟩
  | 105 => ⟨S2048x2048, .f32⟩
  | 106 => ⟨S2048x2048, .i1⟩
  | 107 => ⟨S2048x2048, .f32⟩
  | 108 => ⟨S_, .f32⟩
  | 109 => ⟨S2048, .f32⟩
  | 110 => ⟨S2048x2048, .f32⟩
  | 111 => ⟨S2048x64, .f32⟩
  | 112 => ⟨S_, .f32⟩
  | 113 => ⟨S2048x64, .f32⟩
  | 114 => ⟨S2048x64, .f32⟩
  | 115 => ⟨S2048x1, .f32⟩
  | 116 => ⟨S2048x64, .f32⟩
  | 117 => ⟨S2048x64, .f32⟩
  | 118 => ⟨S2048x64, .f32⟩
  | 119 => ⟨S4096x64, .f32⟩
  | 120 => ⟨S1x262144, .f32⟩
  | 121 => ⟨S262144x2, .f32⟩
  | 122 => ⟨S1x2, .f32⟩
  | 123 => ⟨S1x2, .f32⟩
  | 124 => ⟨S1x2, .f32⟩
  | 125 => ⟨S_, .f32⟩
  | 126 => ⟨S1, .f32⟩
  | 127 => ⟨S_, .f32⟩
  | _ => ⟨S2048x2048, .f32⟩

abbrev hbmTy0_3 (i : Nat) : BufTy := match i % 128 with
  | 0 => ⟨S1, .f32⟩
  | 1 => ⟨S1, .f32⟩
  | 2 => ⟨S1x1, .f32⟩
  | 3 => ⟨S1x2, .f32⟩
  | 4 => ⟨S1x2, .f32⟩
  | 5 => ⟨S1x2, .f32⟩
  | 6 => ⟨S_, .f32⟩
  | 7 => ⟨S1, .f32⟩
  | 8 => ⟨S1x1, .f32⟩
  | 9 => ⟨S1x2, .f32⟩
  | 10 => ⟨S1x2, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_cst_0 : Ref sig .tc := ⟨.hbm, 41, rfl⟩
abbrev main_v7 : Ref sig .tc := ⟨.hbm, 42, rfl⟩
abbrev main_v8 : Ref sig .tc := ⟨.hbm, 43, rfl⟩
abbrev main_c : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_cst_1 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_call1_cst : Ref sig .tc := ⟨.hbm, 82, rfl⟩
abbrev main_call1_v0 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_2 : Ref sig .tc := ⟨.hbm, 90, rfl⟩
abbrev main_v29 : Ref sig .tc := ⟨.hbm, 91, rfl⟩
abbrev main_v30 : Ref sig .tc := ⟨.hbm, 92, rfl⟩
abbrev main_cst_3 : Ref sig .tc := ⟨.hbm, 93, rfl⟩
abbrev main_v31 : Ref sig .tc := ⟨.hbm, 94, rfl⟩
abbrev main_v32 : Ref sig .tc := ⟨.hbm, 95, rfl⟩
abbrev main_c_4 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_cst_1 : Ref sig .tc := ⟨.hbm, 107, rfl⟩
abbrev main_call2_v8 : Ref sig .tc := ⟨.hbm, 108, rfl⟩
abbrev main_call2_cst_2 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_v12 : Ref sig .tc := ⟨.hbm, 113, rfl⟩
abbrev main_call2_cst_3 : Ref sig .tc := ⟨.hbm, 114, rfl⟩
abbrev main_call2_v13 : Ref sig .tc := ⟨.hbm, 115, rfl⟩
abbrev main_call2_cst_4 : Ref sig .tc := ⟨.hbm, 116, rfl⟩
abbrev main_call2_call0_v0 : Ref sig .tc := ⟨.hbm, 117, rfl⟩
abbrev main_call2_call0_v1 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_cst_5 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_call3_cst : Ref sig .tc := ⟨.hbm, 134, rfl⟩
abbrev main_call3_v0 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_cst_6 : Ref sig .tc := ⟨.hbm, 142, rfl⟩
abbrev main_v53 : Ref sig .tc := ⟨.hbm, 143, rfl⟩
abbrev main_v54 : Ref sig .tc := ⟨.hbm, 144, rfl⟩
abbrev main_cst_7 : Ref sig .tc := ⟨.hbm, 145, rfl⟩
abbrev main_v55 : Ref sig .tc := ⟨.hbm, 146, rfl⟩
abbrev main_v56 : Ref sig .tc := ⟨.hbm, 147, rfl⟩
abbrev main_c_8 : Ref sig .tc := ⟨.hbm, 148, rfl⟩
abbrev main_call4_cst : Ref sig .tc := ⟨.hbm, 149, rfl⟩
abbrev main_call4_v0 : Ref sig .tc := ⟨.hbm, 150, rfl⟩
abbrev main_call4_v1 : Ref sig .tc := ⟨.hbm, 151, rfl⟩
abbrev main_call4_cst_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_v7 : Ref sig .tc := ⟨.hbm, 158, rfl⟩
abbrev main_call4_cst_1 : Ref sig .tc := ⟨.hbm, 159, rfl⟩
abbrev main_call4_v8 : Ref sig .tc := ⟨.hbm, 160, rfl⟩
abbrev main_call4_cst_2 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_v12 : Ref sig .tc := ⟨.hbm, 165, rfl⟩
abbrev main_call4_cst_3 : Ref sig .tc := ⟨.hbm, 166, rfl⟩
abbrev main_call4_v13 : Ref sig .tc := ⟨.hbm, 167, rfl⟩
abbrev main_call4_cst_4 : Ref sig .tc := ⟨.hbm, 168, rfl⟩
abbrev main_call4_call0_v0 : Ref sig .tc := ⟨.hbm, 169, rfl⟩
abbrev main_call4_call0_v1 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_cst_9 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_call5_cst : Ref sig .tc := ⟨.hbm, 186, rfl⟩
abbrev main_call5_v0 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_cst_10 : Ref sig .tc := ⟨.hbm, 194, rfl⟩
abbrev main_v77 : Ref sig .tc := ⟨.hbm, 195, rfl⟩
abbrev main_v78 : Ref sig .tc := ⟨.hbm, 196, rfl⟩
abbrev main_cst_11 : Ref sig .tc := ⟨.hbm, 197, rfl⟩
abbrev main_v79 : Ref sig .tc := ⟨.hbm, 198, rfl⟩
abbrev main_v80 : Ref sig .tc := ⟨.hbm, 199, rfl⟩
abbrev main_c_12 : Ref sig .tc := ⟨.hbm, 200, rfl⟩
abbrev main_call6_cst : Ref sig .tc := ⟨.hbm, 201, rfl⟩
abbrev main_call6_v0 : Ref sig .tc := ⟨.hbm, 202, rfl⟩
abbrev main_call6_v1 : Ref sig .tc := ⟨.hbm, 203, rfl⟩
abbrev main_call6_cst_0 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_v6 : Ref sig .tc := ⟨.hbm, 209, rfl⟩
abbrev main_call6_v7 : Ref sig .tc := ⟨.hbm, 210, rfl⟩
abbrev main_call6_cst_1 : Ref sig .tc := ⟨.hbm, 211, rfl⟩
abbrev main_call6_v8 : Ref sig .tc := ⟨.hbm, 212, rfl⟩
abbrev main_call6_cst_2 : Ref sig .tc := ⟨.hbm, 213, rfl⟩
abbrev main_call6_v9 : Ref sig .tc := ⟨.hbm, 214, rfl⟩
abbrev main_call6_v10 : Ref sig .tc := ⟨.hbm, 215, rfl⟩
abbrev main_call6_v11 : Ref sig .tc := ⟨.hbm, 216, rfl⟩
abbrev main_call6_v12 : Ref sig .tc := ⟨.hbm, 217, rfl⟩
abbrev main_call6_cst_3 : Ref sig .tc := ⟨.hbm, 218, rfl⟩
abbrev main_call6_v13 : Ref sig .tc := ⟨.hbm, 219, rfl⟩
abbrev main_call6_cst_4 : Ref sig .tc := ⟨.hbm, 220, rfl⟩
abbrev main_call6_call0_v0 : Ref sig .tc := ⟨.hbm, 221, rfl⟩
abbrev main_call6_call0_v1 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_cst_13 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_call7_cst : Ref sig .tc := ⟨.hbm, 238, rfl⟩
abbrev main_call7_v0 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_cst_14 : Ref sig .tc := ⟨.hbm, 246, rfl⟩
abbrev main_v101 : Ref sig .tc := ⟨.hbm, 247, rfl⟩
abbrev main_v102 : Ref sig .tc := ⟨.hbm, 248, rfl⟩
abbrev main_cst_15 : Ref sig .tc := ⟨.hbm, 249, rfl⟩
abbrev main_v103 : Ref sig .tc := ⟨.hbm, 250, rfl⟩
abbrev main_v104 : Ref sig .tc := ⟨.hbm, 251, rfl⟩
abbrev main_c_16 : Ref sig .tc := ⟨.hbm, 252, rfl⟩
abbrev main_call8_cst : Ref sig .tc := ⟨.hbm, 253, rfl⟩
abbrev main_call8_v0 : Ref sig .tc := ⟨.hbm, 254, rfl⟩
abbrev main_call8_v1 : Ref sig .tc := ⟨.hbm, 255, rfl⟩
abbrev main_call8_cst_0 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_call8_v5 : Ref sig .tc := ⟨.hbm, 260, rfl⟩
abbrev main_call8_v6 : Ref sig .tc := ⟨.hbm, 261, rfl⟩
abbrev main_call8_v7 : Ref sig .tc := ⟨.hbm, 262, rfl⟩
abbrev main_call8_cst_1 : Ref sig .tc := ⟨.hbm, 263, rfl⟩
abbrev main_call8_v8 : Ref sig .tc := ⟨.hbm, 264, rfl⟩
abbrev main_call8_cst_2 : Ref sig .tc := ⟨.hbm, 265, rfl⟩
abbrev main_call8_v9 : Ref sig .tc := ⟨.hbm, 266, rfl⟩
abbrev main_call8_v10 : Ref sig .tc := ⟨.hbm, 267, rfl⟩
abbrev main_call8_v11 : Ref sig .tc := ⟨.hbm, 268, rfl⟩
abbrev main_call8_v12 : Ref sig .tc := ⟨.hbm, 269, rfl⟩
abbrev main_call8_cst_3 : Ref sig .tc := ⟨.hbm, 270, rfl⟩
abbrev main_call8_v13 : Ref sig .tc := ⟨.hbm, 271, rfl⟩
abbrev main_call8_cst_4 : Ref sig .tc := ⟨.hbm, 272, rfl⟩
abbrev main_call8_call0_v0 : Ref sig .tc := ⟨.hbm, 273, rfl⟩
abbrev main_call8_call0_v1 : Ref sig .tc := ⟨.hbm, 274, rfl⟩
abbrev main_v105 : Ref sig .tc := ⟨.hbm, 275, rfl⟩
abbrev main_v106 : Ref sig .tc := ⟨.hbm, 276, rfl⟩
abbrev main_v107 : Ref sig .tc := ⟨.hbm, 277, rfl⟩
abbrev main_cst_17 : Ref sig .tc := ⟨.hbm, 278, rfl⟩
abbrev main_v108 : Ref sig .tc := ⟨.hbm, 279, rfl⟩
abbrev main_v109 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_v113 : Ref sig .tc := ⟨.hbm, 284, rfl⟩
abbrev main_v114 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_call9_cst : Ref sig .tc := ⟨.hbm, 290, rfl⟩
abbrev main_call9_v0 : Ref sig .tc := ⟨.hbm, 291, rfl⟩
abbrev main_v119 : Ref sig .tc := ⟨.hbm, 292, rfl⟩
abbrev main_v120 : Ref sig .tc := ⟨.hbm, 293, rfl⟩
abbrev main_v121 : Ref sig .tc := ⟨.hbm, 294, rfl⟩
abbrev main_v122 : Ref sig .tc := ⟨.hbm, 295, rfl⟩
abbrev main_v123 : Ref sig .tc := ⟨.hbm, 296, rfl⟩
abbrev main_v124 : Ref sig .tc := ⟨.hbm, 297, rfl⟩
abbrev main_cst_18 : Ref sig .tc := ⟨.hbm, 298, rfl⟩
abbrev main_v125 : Ref sig .tc := ⟨.hbm, 299, rfl⟩
abbrev main_v126 : Ref sig .tc := ⟨.hbm, 300, rfl⟩
abbrev main_cst_19 : Ref sig .tc := ⟨.hbm, 301, rfl⟩
abbrev main_v127 : Ref sig .tc := ⟨.hbm, 302, rfl⟩
abbrev main_v128 : Ref sig .tc := ⟨.hbm, 303, rfl⟩
abbrev main_c_20 : Ref sig .tc := ⟨.hbm, 304, rfl⟩
abbrev main_call10_cst : Ref sig .tc := ⟨.hbm, 305, rfl⟩
abbrev main_call10_v0 : Ref sig .tc := ⟨.hbm, 306, rfl⟩
abbrev main_call10_v1 : Ref sig .tc := ⟨.hbm, 307, rfl⟩
abbrev main_call10_cst_0 : Ref sig .tc := ⟨.hbm, 308, rfl⟩
abbrev main_call10_v2 : Ref sig .tc := ⟨.hbm, 309, rfl⟩
abbrev main_call10_v3 : Ref sig .tc := ⟨.hbm, 310, rfl⟩
abbrev main_call10_v4 : Ref sig .tc := ⟨.hbm, 311, rfl⟩
abbrev main_call10_v5 : Ref sig .tc := ⟨.hbm, 312, rfl⟩
abbrev main_call10_v6 : Ref sig .tc := ⟨.hbm, 313, rfl⟩
abbrev main_call10_v7 : Ref sig .tc := ⟨.hbm, 314, rfl⟩
abbrev main_call10_cst_1 : Ref sig .tc := ⟨.hbm, 315, rfl⟩
abbrev main_call10_v8 : Ref sig .tc := ⟨.hbm, 316, rfl⟩
abbrev main_call10_cst_2 : Ref sig .tc := ⟨.hbm, 317, rfl⟩
abbrev main_call10_v9 : Ref sig .tc := ⟨.hbm, 318, rfl⟩
abbrev main_call10_v10 : Ref sig .tc := ⟨.hbm, 319, rfl⟩
abbrev main_call10_v11 : Ref sig .tc := ⟨.hbm, 320, rfl⟩
abbrev main_call10_v12 : Ref sig .tc := ⟨.hbm, 321, rfl⟩
abbrev main_call10_cst_3 : Ref sig .tc := ⟨.hbm, 322, rfl⟩
abbrev main_call10_v13 : Ref sig .tc := ⟨.hbm, 323, rfl⟩
abbrev main_call10_cst_4 : Ref sig .tc := ⟨.hbm, 324, rfl⟩
abbrev main_call10_call0_v0 : Ref sig .tc := ⟨.hbm, 325, rfl⟩
abbrev main_call10_call0_v1 : Ref sig .tc := ⟨.hbm, 326, rfl⟩
abbrev main_v129 : Ref sig .tc := ⟨.hbm, 327, rfl⟩
abbrev main_v130 : Ref sig .tc := ⟨.hbm, 328, rfl⟩
abbrev main_v131 : Ref sig .tc := ⟨.hbm, 329, rfl⟩
abbrev main_cst_21 : Ref sig .tc := ⟨.hbm, 330, rfl⟩
abbrev main_v132 : Ref sig .tc := ⟨.hbm, 331, rfl⟩
abbrev main_v133 : Ref sig .tc := ⟨.hbm, 332, rfl⟩
abbrev main_v134 : Ref sig .tc := ⟨.hbm, 333, rfl⟩
abbrev main_v135 : Ref sig .tc := ⟨.hbm, 334, rfl⟩
abbrev main_v136 : Ref sig .tc := ⟨.hbm, 335, rfl⟩
abbrev main_v137 : Ref sig .tc := ⟨.hbm, 336, rfl⟩
abbrev main_v138 : Ref sig .tc := ⟨.hbm, 337, rfl⟩
abbrev main_v139 : Ref sig .tc := ⟨.hbm, 338, rfl⟩
abbrev main_v140 : Ref sig .tc := ⟨.hbm, 339, rfl⟩
abbrev main_v141 : Ref sig .tc := ⟨.hbm, 340, rfl⟩
abbrev main_v142 : Ref sig .tc := ⟨.hbm, 341, rfl⟩
abbrev main_call11_cst : Ref sig .tc := ⟨.hbm, 342, rfl⟩
abbrev main_call11_v0 : Ref sig .tc := ⟨.hbm, 343, rfl⟩
abbrev main_v143 : Ref sig .tc := ⟨.hbm, 344, rfl⟩
abbrev main_cst_22 : Ref sig .tc := ⟨.hbm, 345, rfl⟩
abbrev main_v144 : Ref sig .tc := ⟨.hbm, 346, rfl⟩
abbrev main_v145 : Ref sig .tc := ⟨.hbm, 347, rfl⟩
abbrev main_v146 : Ref sig .tc := ⟨.hbm, 348, rfl⟩
abbrev main_cst_23 : Ref sig .tc := ⟨.hbm, 349, rfl⟩
abbrev main_v147 : Ref sig .tc := ⟨.hbm, 350, rfl⟩
abbrev main_v148 : Ref sig .tc := ⟨.hbm, 351, rfl⟩
abbrev main_v149 : Ref sig .tc := ⟨.hbm, 352, rfl⟩
abbrev main_v150 : Ref sig .tc := ⟨.hbm, 353, rfl⟩
abbrev main_v151 : Ref sig .tc := ⟨.hbm, 354, rfl⟩
abbrev main_v152 : Ref sig .tc := ⟨.hbm, 355, rfl⟩
abbrev main_v153 : Ref sig .tc := ⟨.hbm, 356, rfl⟩
abbrev main_v154 : Ref sig .tc := ⟨.hbm, 357, rfl⟩
abbrev main_v155 : Ref sig .tc := ⟨.hbm, 358, rfl⟩
abbrev main_v156 : Ref sig .tc := ⟨.hbm, 359, rfl⟩
abbrev main_cst_24 : Ref sig .tc := ⟨.hbm, 360, rfl⟩
abbrev main_v157 : Ref sig .tc := ⟨.hbm, 361, rfl⟩
abbrev main_v158 : Ref sig .tc := ⟨.hbm, 362, rfl⟩
abbrev main_v159 : Ref sig .tc := ⟨.hbm, 363, rfl⟩
abbrev main_cst_25 : Ref sig .tc := ⟨.hbm, 364, rfl⟩
abbrev main_v160 : Ref sig .tc := ⟨.hbm, 365, rfl⟩
abbrev main_v161 : Ref sig .tc := ⟨.hbm, 366, rfl⟩
abbrev main_v162 : Ref sig .tc := ⟨.hbm, 367, rfl⟩
abbrev main_v163 : Ref sig .tc := ⟨.hbm, 368, rfl⟩
abbrev main_v164 : Ref sig .tc := ⟨.hbm, 369, rfl⟩
abbrev main_v165 : Ref sig .tc := ⟨.hbm, 370, rfl⟩
abbrev main_v166 : Ref sig .tc := ⟨.hbm, 371, rfl⟩
abbrev main_v167 : Ref sig .tc := ⟨.hbm, 372, rfl⟩
abbrev main_v168 : Ref sig .tc := ⟨.hbm, 373, rfl⟩
abbrev main_v169 : Ref sig .tc := ⟨.hbm, 374, rfl⟩
abbrev main_v170 : Ref sig .tc := ⟨.hbm, 375, rfl⟩
abbrev main_v171 : Ref sig .tc := ⟨.hbm, 376, rfl⟩
abbrev main_v172 : Ref sig .tc := ⟨.hbm, 377, rfl⟩
abbrev main_v173 : Ref sig .tc := ⟨.hbm, 378, rfl⟩
abbrev main_v174 : Ref sig .tc := ⟨.hbm, 379, rfl⟩
abbrev main_v175 : Ref sig .tc := ⟨.hbm, 380, rfl⟩
abbrev main_cst_26 : Ref sig .tc := ⟨.hbm, 381, rfl⟩
abbrev main_v176 : Ref sig .tc := ⟨.hbm, 382, rfl⟩
abbrev main_cst_27 : Ref sig .tc := ⟨.hbm, 383, rfl⟩
abbrev main_v177 : Ref sig .tc := ⟨.hbm, 384, rfl⟩
abbrev main_v178 : Ref sig .tc := ⟨.hbm, 385, rfl⟩
abbrev main_v179 : Ref sig .tc := ⟨.hbm, 386, rfl⟩
abbrev main_v180 : Ref sig .tc := ⟨.hbm, 387, rfl⟩
abbrev main_v181 : Ref sig .tc := ⟨.hbm, 388, rfl⟩
abbrev main_v182 : Ref sig .tc := ⟨.hbm, 389, rfl⟩
abbrev main_cst_28 : Ref sig .tc := ⟨.hbm, 390, rfl⟩
abbrev main_v183 : Ref sig .tc := ⟨.hbm, 391, rfl⟩
abbrev main_v184 : Ref sig .tc := ⟨.hbm, 392, rfl⟩
abbrev main_v185 : Ref sig .tc := ⟨.hbm, 393, rfl⟩
abbrev main_v186 : Ref sig .tc := ⟨.hbm, 394, rfl⟩

abbrev nD : Nat := 1
abbrev τ : Topo := Topo.v7x

variable {F : FTy → Type} [FloatOps F]
-- ==== Proof.KI.Ring.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

/-! ## The grid coordinate in words, and the offsets in closed form -/

/-- The grid point with coordinate `n`. -/
def pt (n : Fin 16) : grid0.Coords := fun a => ⟨n.val, by fin_cases a; exact n.isLt⟩
/-- A grid point is the one with its coordinate. -/
theorem eq_pt (i : grid0.Coords) : i = pt (i 0) := by funext a; fin_cases a; rfl

/-- The ring slot a grid point works on: its coordinate modulo four. -/
def sI (i : grid0.Coords) : Fin 4 := ⟨(i 0).val % 4, Nat.mod_lt _ (by decide)⟩
/-- The two row blocks a slot carries in turn: block `s`, then block `s + 4`. -/
def blo (s : Fin 4) : Fin 8 := ⟨s.val, by omega⟩
def bhi (s : Fin 4) : Fin 8 := ⟨s.val + 4, by omega⟩

/-- The conditions the body computes inline: the last row block of the first encoder, of the second, and the first attention step. -/
abbrev c2 (i : grid0.Coords) : BitVec 1 := Scalar.cmpi .ne (Scalar.extui (Scalar.cmpi .eq (BitVec.ofNat 32 (i 0).val) 3#32) : BitVec 32) 0#32
abbrev c4 (i : grid0.Coords) : BitVec 1 := Scalar.cmpi .ne (Scalar.extui (Scalar.cmpi .eq (BitVec.ofNat 32 (i 0).val) 7#32) : BitVec 32) 0#32
abbrev c6 (i : grid0.Coords) : BitVec 1 := Scalar.cmpi .ne (Scalar.extui (Scalar.cmpi .eq (Scalar.subi (BitVec.ofNat 32 (i 0).val) 8#32) 0#32) : BitVec 32) 0#32

abbrev semOff (k : Fin 3) (s : Fin 4) : Fin 2 → Nat := ![k.val, s.val]
/-- A cell's place is inside the ring's cells. -/
theorem semOff_inb (k : Fin 3) (s : Fin 4) : ∀ a, semOff k s a + S1x1.size a ≤ S3x4.size a := by
  have := k.isLt; have := s.isLt; intro a; fin_cases a
  · show k.val + 1 ≤ 3; omega
  · show s.val + 1 ≤ 4; omega
abbrev slotOff (s : Fin 4) : Fin 3 → Nat := ![s.val, 0, 0]
/-- A slot is inside its buffer. -/
theorem slotOff_inb (s : Fin 4) : ∀ a, slotOff s a + S1x256x2048.size a ≤ S4x256x2048.size a := by
  have := s.isLt; intro a; fin_cases a
  · show s.val + 1 ≤ 4; omega
  · show 0 + 256 ≤ 256; omega
  · show 0 + 2048 ≤ 2048; omega
abbrev rowOff (b : Fin 8) : Fin 2 → Nat := ![256 * b.val, 0]
/-- A row block is inside its array. -/
theorem rowOff_inb (b : Fin 8) : ∀ a, rowOff b a + S256x2048.size a ≤ S2048x2048.size a := by
  have := b.isLt; intro a; fin_cases a
  · show 256 * b.val + 256 ≤ 2048; omega
  · show 0 + 2048 ≤ 2048; omega

/-- Cell of array `k`'s transfer into slot `s`. -/
def csm (k : Fin 3) (s : Fin 4) : DmaSems sig S_ :=
  (cc0_scratch7.slice (Rect.unit (s := S3x4) (semOff k s) S1x1.size (semOff_inb k s))).squeeze S_ squeezes_S1x1_S_

/-- Array A of the ring in HBM, its four-slot buffer, slot `s` of the buffer and row block `b` of the array, as the body slices them. -/
abbrev arrA : Memref sig .tc .hbm S2048x2048 .f32 := Memref.whole main_arg2
abbrev bufA : Memref sig .tc .vmem S4x256x2048 .f32 := Memref.whole cc0_scratch3
def slotA (s : Fin 4) : Memref sig .tc .vmem S256x2048 .f32 :=
  (bufA.slice (Rect.unit (s := S4x256x2048) (slotOff s) S1x256x2048.size (slotOff_inb s)) (fun _ => rfl)).squeeze S256x2048 squeezes_S1x256x2048_S256x2048
def rowsA (b : Fin 8) : Memref sig .tc .hbm S256x2048 .f32 :=
  arrA.slice (Rect.unit (s := S2048x2048) (rowOff b) S256x2048.size (rowOff_inb b)) (fun _ => rfl)

/-- Array B of the ring in HBM, its four-slot buffer, slot `s` of the buffer and row block `b` of the array, as the body slices them. -/
abbrev arrB : Memref sig .tc .hbm S2048x2048 .f32 := Memref.whole main_arg3
abbrev bufB : Memref sig .tc .vmem S4x256x2048 .f32 := Memref.whole cc0_scratch4
def slotB (s : Fin 4) : Memref sig .tc .vmem S256x2048 .f32 :=
  (bufB.slice (Rect.unit (s := S4x256x2048) (slotOff s) S1x256x2048.size (slotOff_inb s)) (fun _ => rfl)).squeeze S256x2048 squeezes_S1x256x2048_S256x2048
def rowsB (b : Fin 8) : Memref sig .tc .hbm S256x2048 .f32 :=
  arrB.slice (Rect.unit (s := S2048x2048) (rowOff b) S256x2048.size (rowOff_inb b)) (fun _ => rfl)

/-- Array C of the ring in HBM, its four-slot buffer, slot `s` of the buffer and row block `b` of the array, as the body slices them. -/
abbrev arrC : Memref sig .tc .hbm S2048x2048 .f32 := Memref.whole main_arg29
abbrev bufC : Memref sig .tc .vmem S4x256x2048 .f32 := Memref.whole cc0_scratch5
def slotC (s : Fin 4) : Memref sig .tc .vmem S256x2048 .f32 :=
  (bufC.slice (Rect.unit (s := S4x256x2048) (slotOff s) S1x256x2048.size (slotOff_inb s)) (fun _ => rfl)).squeeze S256x2048 squeezes_S1x256x2048_S256x2048
def rowsC (b : Fin 8) : Memref sig .tc .hbm S256x2048 .f32 :=
  arrC.slice (Rect.unit (s := S2048x2048) (rowOff b) S256x2048.size (rowOff_inb b)) (fun _ => rfl)

instance (s : Fin 4) : ClosedOff (slotOff s) := ⟨slotOff s, rfl⟩
instance (b : Fin 8) : ClosedOff (rowOff b) := ⟨rowOff b, rfl⟩

/-- First copy: array A's cell is the point's slot's. -/
theorem off3_eq (i : grid0.Coords) (h3 : k0_cond3 i = 1#1) : k0_off3 i = semOff 0 (sI i) := by
  have key : ∀ n : Fin 16, k0_cond3 (pt n) = 1#1 → k0_off3 (pt n) = semOff 0 (sI (pt n)) := by decide
  rw [eq_pt i] at h3 ⊢; exact key _ h3
/-- First copy: array B's cell is the point's slot's. -/
theorem off6_eq (i : grid0.Coords) (h3 : k0_cond3 i = 1#1) : k0_off6 i = semOff 1 (sI i) := by
  have key : ∀ n : Fin 16, k0_cond3 (pt n) = 1#1 → k0_off6 (pt n) = semOff 1 (sI (pt n)) := by decide
  rw [eq_pt i] at h3 ⊢; exact key _ h3
/-- First copy: array C's cell is the point's slot's. -/
theorem off7_eq (i : grid0.Coords) (h3 : k0_cond3 i = 1#1) : k0_off7 i = semOff 2 (sI i) := by
  have key : ∀ n : Fin 16, k0_cond3 (pt n) = 1#1 → k0_off7 (pt n) = semOff 2 (sI (pt n)) := by decide
  rw [eq_pt i] at h3 ⊢; exact key _ h3
/-- First copy: the slot is the point's. -/
theorem off4_eq (i : grid0.Coords) (h3 : k0_cond3 i = 1#1) : k0_off4 i = slotOff (sI i) := by
  have key : ∀ n : Fin 16, k0_cond3 (pt n) = 1#1 → k0_off4 (pt n) = slotOff (sI (pt n)) := by decide
  rw [eq_pt i] at h3 ⊢; exact key _ h3
/-- First copy: the rows are the slot's first block. -/
theorem off5_eq (i : grid0.Coords) (h3 : k0_cond3 i = 1#1) : k0_off5 i = rowOff (blo (sI i)) := by
  have key : ∀ n : Fin 16, k0_cond3 (pt n) = 1#1 → k0_off5 (pt n) = rowOff (blo (sI (pt n))) := by decide
  rw [eq_pt i] at h3 ⊢; exact key _ h3
/-- Wait: array A's cell is the point's slot's. -/
theorem off8_eq (i : grid0.Coords) (h5 : k0_cond5 i = 1#1) : k0_off8 i = semOff 0 (sI i) := by
  have key : ∀ n : Fin 16, k0_cond5 (pt n) = 1#1 → k0_off8 (pt n) = semOff 0 (sI (pt n)) := by decide
  rw [eq_pt i] at h5 ⊢; exact key _ h5
/-- Wait: array B's cell is the point's slot's. -/
theorem off11_eq (i : grid0.Coords) (h5 : k0_cond5 i = 1#1) : k0_off11 i = semOff 1 (sI i) := by
  have key : ∀ n : Fin 16, k0_cond5 (pt n) = 1#1 → k0_off11 (pt n) = semOff 1 (sI (pt n)) := by decide
  rw [eq_pt i] at h5 ⊢; exact key _ h5
/-- Wait: array C's cell is the point's slot's. -/
theorem off12_eq (i : grid0.Coords) (h5 : k0_cond5 i = 1#1) : k0_off12 i = semOff 2 (sI i) := by
  have key : ∀ n : Fin 16, k0_cond5 (pt n) = 1#1 → k0_off12 (pt n) = semOff 2 (sI (pt n)) := by decide
  rw [eq_pt i] at h5 ⊢; exact key _ h5
/-- Wait: the slot is the point's. -/
theorem off9_eq (i : grid0.Coords) (h5 : k0_cond5 i = 1#1) : k0_off9 i = slotOff (sI i) := by
  have key : ∀ n : Fin 16, k0_cond5 (pt n) = 1#1 → k0_off9 (pt n) = slotOff (sI (pt n)) := by decide
  rw [eq_pt i] at h5 ⊢; exact key _ h5
/-- Wait, first four steps: the rows are the slot's first block. -/
theorem off10_lo (i : grid0.Coords) (h5 : k0_cond5 i = 1#1) (h7 : k0_cond7 i = 1#1) : k0_off10 i = rowOff (blo (sI i)) := by
  have key : ∀ n : Fin 16, k0_cond5 (pt n) = 1#1 → k0_cond7 (pt n) = 1#1 → k0_off10 (pt n) = rowOff (blo (sI (pt n))) := by decide
  rw [eq_pt i] at h5 h7 ⊢; exact key _ h5 h7
/-- Wait, last four steps: the rows are the slot's second block. -/
theorem off10_hi (i : grid0.Coords) (h5 : k0_cond5 i = 1#1) (h7 : ¬ k0_cond7 i = 1#1) : k0_off10 i = rowOff (bhi (sI i)) := by
  have key : ∀ n : Fin 16, k0_cond5 (pt n) = 1#1 → ¬ k0_cond7 (pt n) = 1#1 → k0_off10 (pt n) = rowOff (bhi (sI (pt n))) := by decide
  rw [eq_pt i] at h5 h7 ⊢; exact key _ h5 h7
/-- The slot that a step reads is the point's. -/
theorem off13_eq (i : grid0.Coords) (h5 : k0_cond5 i = 1#1) : k0_off13 i = slotOff (sI i) := by
  have key : ∀ n : Fin 16, k0_cond5 (pt n) = 1#1 → k0_off13 (pt n) = slotOff (sI (pt n)) := by decide
  rw [eq_pt i] at h5 ⊢; exact key _ h5
/-- Second copy: array A's cell is the point's slot's. -/
theorem off15_eq (i : grid0.Coords) (h5 : k0_cond5 i = 1#1) (h7 : k0_cond7 i = 1#1) : k0_off15 i = semOff 0 (sI i) := by
  have key : ∀ n : Fin 16, k0_cond5 (pt n) = 1#1 → k0_cond7 (pt n) = 1#1 → k0_off15 (pt n) = semOff 0 (sI (pt n)) := by decide
  rw [eq_pt i] at h5 h7 ⊢; exact key _ h5 h7
/-- Second copy: array B's cell is the point's slot's. -/
theorem off18_eq (i : grid0.Coords) (h5 : k0_cond5 i = 1#1) (h7 : k0_cond7 i = 1#1) : k0_off18 i = semOff 1 (sI i) := by
  have key : ∀ n : Fin 16, k0_cond5 (pt n) = 1#1 → k0_cond7 (pt n) = 1#1 → k0_off18 (pt n) = semOff 1 (sI (pt n)) := by decide
  rw [eq_pt i] at h5 h7 ⊢; exact key _ h5 h7
/-- Second copy: array C's cell is the point's slot's. -/
theorem off19_eq (i : grid0.Coords) (h5 : k0_cond5 i = 1#1) (h7 : k0_cond7 i = 1#1) : k0_off19 i = semOff 2 (sI i) := by
  have key : ∀ n : Fin 16, k0_cond5 (pt n) = 1#1 → k0_cond7 (pt n) = 1#1 → k0_off19 (pt n) = semOff 2 (sI (pt n)) := by decide
  rw [eq_pt i] at h5 h7 ⊢; exact key _ h5 h7
/-- Second copy: the slot is the point's. -/
theorem off16_eq (i : grid0.Coords) (h5 : k0_cond5 i = 1#1) (h7 : k0_cond7 i = 1#1) : k0_off16 i = slotOff (sI i) := by
  have key : ∀ n : Fin 16, k0_cond5 (pt n) = 1#1 → k0_cond7 (pt n) = 1#1 → k0_off16 (pt n) = slotOff (sI (pt n)) := by decide
  rw [eq_pt i] at h5 h7 ⊢; exact key _ h5 h7
/-- Second copy: the rows are the slot's second block. -/
theorem off17_eq (i : grid0.Coords) (h5 : k0_cond5 i = 1#1) (h7 : k0_cond7 i = 1#1) : k0_off17 i = rowOff (bhi (sI i)) := by
  have key : ∀ n : Fin 16, k0_cond5 (pt n) = 1#1 → k0_cond7 (pt n) = 1#1 → k0_off17 (pt n) = rowOff (bhi (sI (pt n))) := by decide
  rw [eq_pt i] at h5 h7 ⊢; exact key _ h5 h7
/-- The rows of the second encoder's sums that a point stores. -/
theorem off2_eq (i : grid0.Coords) (h3 : k0_cond3 i = 1#1) : k0_off2 i = ![512 * ((i 0).val - 4), 0] := by
  have key : ∀ n : Fin 16, k0_cond3 (pt n) = 1#1 → k0_off2 (pt n) = ![512 * ((pt n 0).val - 4), 0] := by decide
  rw [eq_pt i] at h3 ⊢; exact key _ h3
/-- The rows of the encoders' results that a point reads. -/
theorem off14_eq (i : grid0.Coords) (h5 : k0_cond5 i = 1#1) : k0_off14 i = ![256 * ((i 0).val - 8), 0] := by
  have key : ∀ n : Fin 16, k0_cond5 (pt n) = 1#1 → k0_off14 (pt n) = ![256 * ((pt n 0).val - 8), 0] := by decide
  rw [eq_pt i] at h5 ⊢; exact key _ h5
/-- The rows of the first encoder's sums that a point stores. -/
theorem off1_eq (i : grid0.Coords) : k0_off1 i = ![512 * (i 0).val, 0] := by
  have key : ∀ n : Fin 16, k0_off1 (pt n) = ![512 * (pt n 0).val, 0] := by decide
  rw [eq_pt i]; exact key _
instance (i : grid0.Coords) : ClosedOff (k0_off1 i) := ⟨_, off1_eq i⟩
instance (i : grid0.Coords) [h : Fact (k0_cond3 i = 1#1)] : ClosedOff (k0_off2 i) := ⟨_, off2_eq i h.out⟩
instance (i : grid0.Coords) [h : Fact (k0_cond3 i = 1#1)] : ClosedOff (k0_off4 i) := ⟨_, off4_eq i h.out⟩
instance (i : grid0.Coords) [h : Fact (k0_cond5 i = 1#1)] : ClosedOff (k0_off9 i) := ⟨_, off9_eq i h.out⟩
instance (i : grid0.Coords) [h : Fact (k0_cond5 i = 1#1)] : ClosedOff (k0_off13 i) := ⟨_, off13_eq i h.out⟩
instance (i : grid0.Coords) [h : Fact (k0_cond5 i = 1#1)] : ClosedOff (k0_off14 i) := ⟨_, off14_eq i h.out⟩

/-! ## The body's slices are the names above -/

/-- A cell sliced at its place is that cell. -/
theorem csm_congr {off : Fin 2 → Nat} {k : Fin 3} {s : Fin 4} (e : off = semOff k s) (hh) :
    (cc0_scratch7.slice (Rect.unit (s := S3x4) off S1x1.size hh)).squeeze S_ squeezes_S1x1_S_ = csm k s :=
  congrArg (fun A : DmaSems sig S1x1 => A.squeeze S_ squeezes_S1x1_S_) (SemArray.slice_unit_congr _ e _ _)
/-- Buffer A sliced at slot `s` is that slot. -/
theorem slotA_congr {off : Fin 3 → Nat} {s : Fin 4} (e : off = slotOff s) (hh hs) :
    (bufA.slice (Rect.unit (s := S4x256x2048) off S1x256x2048.size hh) hs).squeeze S256x2048 squeezes_S1x256x2048_S256x2048 = slotA s :=
  congrArg (fun M : Memref sig .tc .vmem S1x256x2048 .f32 => M.squeeze S256x2048 squeezes_S1x256x2048_S256x2048) (Memref.slice_unit_congr _ e _ _ _ _)
/-- Array A sliced at block `b`'s rows is that block. -/
theorem rowsA_congr {off : Fin 2 → Nat} {b : Fin 8} (e : off = rowOff b) (hh hs) :
    arrA.slice (Rect.unit (s := S2048x2048) off S256x2048.size hh) hs = rowsA b :=
  Memref.slice_unit_congr _ e _ _ _ (fun _ => rfl)
/-- Buffer B sliced at slot `s` is that slot. -/
theorem slotB_congr {off : Fin 3 → Nat} {s : Fin 4} (e : off = slotOff s) (hh hs) :
    (bufB.slice (Rect.unit (s := S4x256x2048) off S1x256x2048.size hh) hs).squeeze S256x2048 squeezes_S1x256x2048_S256x2048 = slotB s :=
  congrArg (fun M : Memref sig .tc .vmem S1x256x2048 .f32 => M.squeeze S256x2048 squeezes_S1x256x2048_S256x2048) (Memref.slice_unit_congr _ e _ _ _ _)
/-- Array B sliced at block `b`'s rows is that block. -/
theorem rowsB_congr {off : Fin 2 → Nat} {b : Fin 8} (e : off = rowOff b) (hh hs) :
    arrB.slice (Rect.unit (s := S2048x2048) off S256x2048.size hh) hs = rowsB b :=
  Memref.slice_unit_congr _ e _ _ _ (fun _ => rfl)
/-- Buffer C sliced at slot `s` is that slot. -/
theorem slotC_congr {off : Fin 3 → Nat} {s : Fin 4} (e : off = slotOff s) (hh hs) :
    (bufC.slice (Rect.unit (s := S4x256x2048) off S1x256x2048.size hh) hs).squeeze S256x2048 squeezes_S1x256x2048_S256x2048 = slotC s :=
  congrArg (fun M : Memref sig .tc .vmem S1x256x2048 .f32 => M.squeeze S256x2048 squeezes_S1x256x2048_S256x2048) (Memref.slice_unit_congr _ e _ _ _ _)
/-- Array C sliced at block `b`'s rows is that block. -/
theorem rowsC_congr {off : Fin 2 → Nat} {b : Fin 8} (e : off = rowOff b) (hh hs) :
    arrC.slice (Rect.unit (s := S2048x2048) off S256x2048.size hh) hs = rowsC b :=
  Memref.slice_unit_congr _ e _ _ _ (fun _ => rfl)
/-- First copy: the body's cell for array A, by name. -/
@[sl_canon] theorem semI0 (i : grid0.Coords) (h3 : k0_cond3 i = 1#1) (hh) :
    (cc0_scratch7.slice (Rect.unit (s := S3x4) (k0_off3 i) S1x1.size hh)).squeeze S_ squeezes_S1x1_S_ = csm 0 (sI i) := csm_congr (off3_eq i h3) _
/-- First copy: the body's cell for array B, by name. -/
@[sl_canon] theorem semI1 (i : grid0.Coords) (h3 : k0_cond3 i = 1#1) (hh) :
    (cc0_scratch7.slice (Rect.unit (s := S3x4) (k0_off6 i) S1x1.size hh)).squeeze S_ squeezes_S1x1_S_ = csm 1 (sI i) := csm_congr (off6_eq i h3) _
/-- First copy: the body's cell for array C, by name. -/
@[sl_canon] theorem semI2 (i : grid0.Coords) (h3 : k0_cond3 i = 1#1) (hh) :
    (cc0_scratch7.slice (Rect.unit (s := S3x4) (k0_off7 i) S1x1.size hh)).squeeze S_ squeezes_S1x1_S_ = csm 2 (sI i) := csm_congr (off7_eq i h3) _
/-- First copy: the body's slot of buffer A, by name. -/
@[sl_canon] theorem slotIA (i : grid0.Coords) (h3 : k0_cond3 i = 1#1) (hh hs) :
    (bufA.slice (Rect.unit (s := S4x256x2048) (k0_off4 i) S1x256x2048.size hh) hs).squeeze S256x2048 squeezes_S1x256x2048_S256x2048 = slotA (sI i) := slotA_congr (off4_eq i h3) _ _
/-- First copy: the body's slot of buffer B, by name. -/
@[sl_canon] theorem slotIB (i : grid0.Coords) (h3 : k0_cond3 i = 1#1) (hh hs) :
    (bufB.slice (Rect.unit (s := S4x256x2048) (k0_off4 i) S1x256x2048.size hh) hs).squeeze S256x2048 squeezes_S1x256x2048_S256x2048 = slotB (sI i) := slotB_congr (off4_eq i h3) _ _
/-- First copy: the body's slot of buffer C, by name. -/
@[sl_canon] theorem slotIC (i : grid0.Coords) (h3 : k0_cond3 i = 1#1) (hh hs) :
    (bufC.slice (Rect.unit (s := S4x256x2048) (k0_off4 i) S1x256x2048.size hh) hs).squeeze S256x2048 squeezes_S1x256x2048_S256x2048 = slotC (sI i) := slotC_congr (off4_eq i h3) _ _
/-- Wait: the body's cell for array A, by name. -/
@[sl_canon] theorem semW0 (i : grid0.Coords) (h5 : k0_cond5 i = 1#1) (hh) :
    (cc0_scratch7.slice (Rect.unit (s := S3x4) (k0_off8 i) S1x1.size hh)).squeeze S_ squeezes_S1x1_S_ = csm 0 (sI i) := csm_congr (off8_eq i h5) _
/-- Wait: the body's cell for array B, by name. -/
@[sl_canon] theorem semW1 (i : grid0.Coords) (h5 : k0_cond5 i = 1#1) (hh) :
    (cc0_scratch7.slice (Rect.unit (s := S3x4) (k0_off11 i) S1x1.size hh)).squeeze S_ squeezes_S1x1_S_ = csm 1 (sI i) := csm_congr (off11_eq i h5) _
/-- Wait: the body's cell for array C, by name. -/
@[sl_canon] theorem semW2 (i : grid0.Coords) (h5 : k0_cond5 i = 1#1) (hh) :
    (cc0_scratch7.slice (Rect.unit (s := S3x4) (k0_off12 i) S1x1.size hh)).squeeze S_ squeezes_S1x1_S_ = csm 2 (sI i) := csm_congr (off12_eq i h5) _
/-- Wait: the body's slot of buffer A, by name. -/
@[sl_canon] theorem slotWA (i : grid0.Coords) (h5 : k0_cond5 i = 1#1) (hh hs) :
    (bufA.slice (Rect.unit (s := S4x256x2048) (k0_off9 i) S1x256x2048.size hh) hs).squeeze S256x2048 squeezes_S1x256x2048_S256x2048 = slotA (sI i) := slotA_congr (off9_eq i h5) _ _
/-- Wait: the body's slot of buffer B, by name. -/
@[sl_canon] theorem slotWB (i : grid0.Coords) (h5 : k0_cond5 i = 1#1) (hh hs) :
    (bufB.slice (Rect.unit (s := S4x256x2048) (k0_off9 i) S1x256x2048.size hh) hs).squeeze S256x2048 squeezes_S1x256x2048_S256x2048 = slotB (sI i) := slotB_congr (off9_eq i h5) _ _
/-- Wait: the body's slot of buffer C, by name. -/
@[sl_canon] theorem slotWC (i : grid0.Coords) (h5 : k0_cond5 i = 1#1) (hh hs) :
    (bufC.slice (Rect.unit (s := S4x256x2048) (k0_off9 i) S1x256x2048.size hh) hs).squeeze S256x2048 squeezes_S1x256x2048_S256x2048 = slotC (sI i) := slotC_congr (off9_eq i h5) _ _
/-- Second copy: the body's cell for array A, by name. -/
@[sl_canon] theorem semJ0 (i : grid0.Coords) (h5 : k0_cond5 i = 1#1) (h7 : k0_cond7 i = 1#1) (hh) :
    (cc0_scratch7.slice (Rect.unit (s := S3x4) (k0_off15 i) S1x1.size hh)).squeeze S_ squeezes_S1x1_S_ = csm 0 (sI i) := csm_congr (off15_eq i h5 h7) _
/-- Second copy: the body's cell for array B, by name. -/
@[sl_canon] theorem semJ1 (i : grid0.Coords) (h5 : k0_cond5 i = 1#1) (h7 : k0_cond7 i = 1#1) (hh) :
    (cc0_scratch7.slice (Rect.unit (s := S3x4) (k0_off18 i) S1x1.size hh)).squeeze S_ squeezes_S1x1_S_ = csm 1 (sI i) := csm_congr (off18_eq i h5 h7) _
/-- Second copy: the body's cell for array C, by name. -/
@[sl_canon] theorem semJ2 (i : grid0.Coords) (h5 : k0_cond5 i = 1#1) (h7 : k0_cond7 i = 1#1) (hh) :
    (cc0_scratch7.slice (Rect.unit (s := S3x4) (k0_off19 i) S1x1.size hh)).squeeze S_ squeezes_S1x1_S_ = csm 2 (sI i) := csm_congr (off19_eq i h5 h7) _
/-- Second copy: the body's slot of buffer A, by name. -/
@[sl_canon] theorem slotJA (i : grid0.Coords) (h5 : k0_cond5 i = 1#1) (h7 : k0_cond7 i = 1#1) (hh hs) :
    (bufA.slice (Rect.unit (s := S4x256x2048) (k0_off16 i) S1x256x2048.size hh) hs).squeeze S256x2048 squeezes_S1x256x2048_S256x2048 = slotA (sI i) := slotA_congr (off16_eq i h5 h7) _ _
/-- Second copy: the body's slot of buffer B, by name. -/
@[sl_canon] theorem slotJB (i : grid0.Coords) (h5 : k0_cond5 i = 1#1) (h7 : k0_cond7 i = 1#1) (hh hs) :
    (bufB.slice (Rect.unit (s := S4x256x2048) (k0_off16 i) S1x256x2048.size hh) hs).squeeze S256x2048 squeezes_S1x256x2048_S256x2048 = slotB (sI i) := slotB_congr (off16_eq i h5 h7) _ _
/-- Second copy: the body's slot of buffer C, by name. -/
@[sl_canon] theorem slotJC (i : grid0.Coords) (h5 : k0_cond5 i = 1#1) (h7 : k0_cond7 i = 1#1) (hh hs) :
    (bufC.slice (Rect.unit (s := S4x256x2048) (k0_off16 i) S1x256x2048.size hh) hs).squeeze S256x2048 squeezes_S1x256x2048_S256x2048 = slotC (sI i) := slotC_congr (off16_eq i h5 h7) _ _
/-- First copy: the body's block of array A, by name. -/
@[sl_canon] theorem rowsIA (i : grid0.Coords) (h3 : k0_cond3 i = 1#1) (hh hs) :
    arrA.slice (Rect.unit (s := S2048x2048) (k0_off5 i) S256x2048.size hh) hs = rowsA (blo (sI i)) := rowsA_congr (off5_eq i h3) _ _
/-- First copy: the body's block of array B, by name. -/
@[sl_canon] theorem rowsIB (i : grid0.Coords) (h3 : k0_cond3 i = 1#1) (hh hs) :
    arrB.slice (Rect.unit (s := S2048x2048) (k0_off5 i) S256x2048.size hh) hs = rowsB (blo (sI i)) := rowsB_congr (off5_eq i h3) _ _
/-- First copy: the body's block of array C, by name. -/
@[sl_canon] theorem rowsIC (i : grid0.Coords) (h3 : k0_cond3 i = 1#1) (hh hs) :
    arrC.slice (Rect.unit (s := S2048x2048) (k0_off5 i) S256x2048.size hh) hs = rowsC (blo (sI i)) := rowsC_congr (off5_eq i h3) _ _
/-- Wait, first four steps: the body's block of array A, by name. -/
@[sl_canon] theorem rowsWlA (i : grid0.Coords) (h5 : k0_cond5 i = 1#1) (h7 : k0_cond7 i = 1#1) (hh hs) :
    arrA.slice (Rect.unit (s := S2048x2048) (k0_off10 i) S256x2048.size hh) hs = rowsA (blo (sI i)) := rowsA_congr (off10_lo i h5 h7) _ _
/-- Wait, first four steps: the body's block of array B, by name. -/
@[sl_canon] theorem rowsWlB (i : grid0.Coords) (h5 : k0_cond5 i = 1#1) (h7 : k0_cond7 i = 1#1) (hh hs) :
    arrB.slice (Rect.unit (s := S2048x2048) (k0_off10 i) S256x2048.size hh) hs = rowsB (blo (sI i)) := rowsB_congr (off10_lo i h5 h7) _ _
/-- Wait, first four steps: the body's block of array C, by name. -/
@[sl_canon] theorem rowsWlC (i : grid0.Coords) (h5 : k0_cond5 i = 1#1) (h7 : k0_cond7 i = 1#1) (hh hs) :
    arrC.slice (Rect.unit (s := S2048x2048) (k0_off10 i) S256x2048.size hh) hs = rowsC (blo (sI i)) := rowsC_congr (off10_lo i h5 h7) _ _
/-- Wait, last four steps: the body's block of array A, by name. -/
@[sl_canon] theorem rowsWhA (i : grid0.Coords) (h5 : k0_cond5 i = 1#1) (h7 : ¬ k0_cond7 i = 1#1) (hh hs) :
    arrA.slice (Rect.unit (s := S2048x2048) (k0_off10 i) S256x2048.size hh) hs = rowsA (bhi (sI i)) := rowsA_congr (off10_hi i h5 h7) _ _
/-- Wait, last four steps: the body's block of array B, by name. -/
@[sl_canon] theorem rowsWhB (i : grid0.Coords) (h5 : k0_cond5 i = 1#1) (h7 : ¬ k0_cond7 i = 1#1) (hh hs) :
    arrB.slice (Rect.unit (s := S2048x2048) (k0_off10 i) S256x2048.size hh) hs = rowsB (bhi (sI i)) := rowsB_congr (off10_hi i h5 h7) _ _
/-- Wait, last four steps: the body's block of array C, by name. -/
@[sl_canon] theorem rowsWhC (i : grid0.Coords) (h5 : k0_cond5 i = 1#1) (h7 : ¬ k0_cond7 i = 1#1) (hh hs) :
    arrC.slice (Rect.unit (s := S2048x2048) (k0_off10 i) S256x2048.size hh) hs = rowsC (bhi (sI i)) := rowsC_congr (off10_hi i h5 h7) _ _
/-- Second copy: the body's block of array A, by name. -/
@[sl_canon] theorem rowsJA (i : grid0.Coords) (h5 : k0_cond5 i = 1#1) (h7 : k0_cond7 i = 1#1) (hh hs) :
    arrA.slice (Rect.unit (s := S2048x2048) (k0_off17 i) S256x2048.size hh) hs = rowsA (bhi (sI i)) := rowsA_congr (off17_eq i h5 h7) _ _
/-- Second copy: the body's block of array B, by name. -/
@[sl_canon] theorem rowsJB (i : grid0.Coords) (h5 : k0_cond5 i = 1#1) (h7 : k0_cond7 i = 1#1) (hh hs) :
    arrB.slice (Rect.unit (s := S2048x2048) (k0_off17 i) S256x2048.size hh) hs = rowsB (bhi (sI i)) := rowsB_congr (off17_eq i h5 h7) _ _
/-- Second copy: the body's block of array C, by name. -/
@[sl_canon] theorem rowsJC (i : grid0.Coords) (h5 : k0_cond5 i = 1#1) (h7 : k0_cond7 i = 1#1) (hh hs) :
    arrC.slice (Rect.unit (s := S2048x2048) (k0_off17 i) S256x2048.size hh) hs = rowsC (bhi (sI i)) := rowsC_congr (off17_eq i h5 h7) _ _

/-! ## The pieces: a block home, a slot held, a cell at rest, a slot in flight -/

section Pieces
variable (c : Dev nD)

abbrev cellP (k : Fin 3) (s : Fin 4) : sProp 𝕄 := semVal ((c : Thread nD τ), SemLoc.dma (csm k s).sem) 0

/-- Array A: slot `s` held at `f`; block `b` home at the array's contents; what block `b`'s transfer leaves in slot `s`; the transfer in flight. -/
abbrev slotPA (s : Fin 4) (f : Buf (Elt F) ((slotA s).view.loc (c : Thread nD τ))) : sProp 𝕄 :=
  (slotA s).view.loc (c : Thread nD τ) ↦[(slotA s).view.set]{fullShare} f
abbrev homeA (X : Buf (Elt F) (arrA.view.loc (c : Thread nD τ))) (b : Fin 8) : sProp 𝕄 :=
  (rowsA b).view.loc (c : Thread nD τ) ↦[(rowsA b).view.set]{fullShare} X
abbrev landedA (X : Buf (Elt F) (arrA.view.loc (c : Thread nD τ))) (s : Fin 4) (b : Fin 8) (f : Buf (Elt F) ((slotA s).view.loc (c : Thread nD τ))) : Buf (Elt F) ((slotA s).view.loc (c : Thread nD τ)) :=
  (slotA s).view.writes (Elt F) f [⟨Rect.whole S256x2048, ReadAs.same.apply ((rowsA b).view.read (Elt F) X)⟩]
abbrev flyA (X : Buf (Elt F) (arrA.view.loc (c : Thread nD τ))) (s : Fin 4) (b : Fin 8) (f : Buf (Elt F) ((slotA s).view.loc (c : Thread nD τ))) : sProp 𝕄 :=
  Transfers.Flight countersEmb (c : Thread nD τ) (SemLoc.dma (csm 0 s).sem) () 65536 iprop(slotPA c s (landedA c X s b f) ∗ homeA c X b)

/-- Array B: slot `s` held at `f`; block `b` home at the array's contents; what block `b`'s transfer leaves in slot `s`; the transfer in flight. -/
abbrev slotPB (s : Fin 4) (f : Buf (Elt F) ((slotB s).view.loc (c : Thread nD τ))) : sProp 𝕄 :=
  (slotB s).view.loc (c : Thread nD τ) ↦[(slotB s).view.set]{fullShare} f
abbrev homeB (X : Buf (Elt F) (arrB.view.loc (c : Thread nD τ))) (b : Fin 8) : sProp 𝕄 :=
  (rowsB b).view.loc (c : Thread nD τ) ↦[(rowsB b).view.set]{fullShare} X
abbrev landedB (X : Buf (Elt F) (arrB.view.loc (c : Thread nD τ))) (s : Fin 4) (b : Fin 8) (f : Buf (Elt F) ((slotB s).view.loc (c : Thread nD τ))) : Buf (Elt F) ((slotB s).view.loc (c : Thread nD τ)) :=
  (slotB s).view.writes (Elt F) f [⟨Rect.whole S256x2048, ReadAs.same.apply ((rowsB b).view.read (Elt F) X)⟩]
abbrev flyB (X : Buf (Elt F) (arrB.view.loc (c : Thread nD τ))) (s : Fin 4) (b : Fin 8) (f : Buf (Elt F) ((slotB s).view.loc (c : Thread nD τ))) : sProp 𝕄 :=
  Transfers.Flight countersEmb (c : Thread nD τ) (SemLoc.dma (csm 1 s).sem) () 65536 iprop(slotPB c s (landedB c X s b f) ∗ homeB c X b)

/-- Array C: slot `s` held at `f`; block `b` home at the array's contents; what block `b`'s transfer leaves in slot `s`; the transfer in flight. -/
abbrev slotPC (s : Fin 4) (f : Buf (Elt F) ((slotC s).view.loc (c : Thread nD τ))) : sProp 𝕄 :=
  (slotC s).view.loc (c : Thread nD τ) ↦[(slotC s).view.set]{fullShare} f
abbrev homeC (X : Buf (Elt F) (arrC.view.loc (c : Thread nD τ))) (b : Fin 8) : sProp 𝕄 :=
  (rowsC b).view.loc (c : Thread nD τ) ↦[(rowsC b).view.set]{fullShare} X
abbrev landedC (X : Buf (Elt F) (arrC.view.loc (c : Thread nD τ))) (s : Fin 4) (b : Fin 8) (f : Buf (Elt F) ((slotC s).view.loc (c : Thread nD τ))) : Buf (Elt F) ((slotC s).view.loc (c : Thread nD τ)) :=
  (slotC s).view.writes (Elt F) f [⟨Rect.whole S256x2048, ReadAs.same.apply ((rowsC b).view.read (Elt F) X)⟩]
abbrev flyC (X : Buf (Elt F) (arrC.view.loc (c : Thread nD τ))) (s : Fin 4) (b : Fin 8) (f : Buf (Elt F) ((slotC s).view.loc (c : Thread nD τ))) : sProp 𝕄 :=
  Transfers.Flight countersEmb (c : Thread nD τ) (SemLoc.dma (csm 2 s).sem) () 65536 iprop(slotPC c s (landedC c X s b f) ∗ homeC c X b)

end Pieces

end Cert.KernelIdeal.Hand

end
-- ==== Proof.KI.Vals.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.CellWrites
public import Idealize.ShloMosaic.Lib.Pipeline.TableIdle
public import Idealize.ShloMosaic.Lib.Affine
public import Idealize.ShloMosaic.Lib.Tactic
public import Idealize.ShloMosaic.Lib.WordCmp
public import proofs.«01_k».proof.Proof.KI.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Values

/-- What the first encoder's layers after the first leave of the pre-activations `h` (rows by width). -/
def enc1 (h : Vec F S2048x256 .f32) (g : Vec F S1x256 .f32) (b : Vec F S1x256 .f32) (w : Vec F S128x256 .f32) (b' : Vec F S1x128 .f32) (g' : Vec F S1x128 .f32) (e' : Vec F S1x128 .f32)
    (w2 : Vec F S64x128 .f32) (b2 : Vec F S1x64 .f32) (g2 : Vec F S1x64 .f32) (e2 : Vec F S1x64 .f32) : Vec F S2048x64 .f32 :=
  k0_pay2 (k0_pay8 (k0_pay5 h g b w b') (k0_pay6 g') (k0_pay7 e') w2 b2) (k0_pay9 g2) (k0_pay10 e2)
    (k0_pay11 (k0_pay5 h g b w b') (k0_pay6 g') (k0_pay7 e') w2 b2) (k0_pay12 (k0_pay5 h g b w b') (k0_pay6 g') (k0_pay7 e') w2 b2)
/-- The same for the second encoder. -/
def enc2 (h : Vec F S2048x256 .f32) (g : Vec F S1x256 .f32) (b : Vec F S1x256 .f32) (w : Vec F S128x256 .f32) (b' : Vec F S1x128 .f32) (g' : Vec F S1x128 .f32) (e' : Vec F S1x128 .f32)
    (w2 : Vec F S64x128 .f32) (b2 : Vec F S1x64 .f32) (g2 : Vec F S1x64 .f32) (e2 : Vec F S1x64 .f32) : Vec F S2048x64 .f32 :=
  k0_pay3 (k0_pay17 (k0_pay14 h g b w b') (k0_pay15 g') (k0_pay16 e') w2 b2) (k0_pay18 g2) (k0_pay19 e2)
    (k0_pay20 (k0_pay14 h g b w b') (k0_pay15 g') (k0_pay16 e') w2 b2) (k0_pay21 (k0_pay14 h g b w b') (k0_pay15 g') (k0_pay16 e') w2 b2)

/-- The one element of a one-by-one array, and element `n` of a pair. -/
def i11 : S1x1.Idx := fun a => ⟨0, by fin_cases a <;> decide⟩
def i2 (n : Fin 2) : S2.Idx := fun a => ⟨n.val, by fin_cases a; exact n.isLt⟩
/-- A pair of scalars as an array. -/
def pair (a b : F .f32) : Vec F S2 .f32 := fun y => if (y 0).val = 0 then a else b
/-- A row block has as many elements as a slot. -/
theorem lift_ok : S256x2048.ShapeCasts S1x256x2048 := (Shape.Squeezes.numel_eq squeezes_S1x256x2048_S256x2048).symm
/-- A row block as a slot of the ring holds it: one more unit axis. -/
def lift (w : Vec F S256x2048 .f32) : Vec F S1x256x2048 .f32 := shapeCast S1x256x2048 w lift_ok

/-- One attention step on row blocks `A`, `B`, `C` of the three arrays: the two partial logits after it, `a0`, `a1` before it. -/
def attn0 (W : F .f32) (A B C : Vec F S256x2048 .f32) (h1 : Vec F S2048x64 .f32) (r1 : Vec F S256x64 .f32) (w1 : Vec F S2x256x64 .f32)
    (h2 : Vec F S2048x64 .f32) (r2 : Vec F S256x64 .f32) (w2 : Vec F S2x256x64 .f32) (a0 : F .f32) : F .f32 :=
  k0_pay34 W (k0_pay27 W (k0_pay23 (lift A)) (k0_pay24 (lift A)) (lift C) h1 r1 w1) (k0_pay30 (lift B)) (k0_pay31 (lift B) (lift C)) h2 r2 w2 a0
def attn1 (W : F .f32) (A B C : Vec F S256x2048 .f32) (h1 : Vec F S2048x64 .f32) (r1 : Vec F S256x64 .f32) (w1 : Vec F S2x256x64 .f32)
    (h2 : Vec F S2048x64 .f32) (r2 : Vec F S256x64 .f32) (w2 : Vec F S2x256x64 .f32) (a1 : F .f32) : F .f32 :=
  k0_pay35 W (k0_pay28 W (k0_pay23 (lift A)) (k0_pay24 (lift A)) (lift C) h1 r1 w1) (k0_pay30 (lift B)) (k0_pay31 (lift B) (lift C)) h2 r2 w2 a1

end Values

/-- A rectangle of a view, taken through a reshape of that rectangle, reads the reshape's values back. -/
theorem readAt_of_slot {sg : RefSig} {κ : Kind} {sp : Space} {sh s' : Shape} {e : EltTy} {Val : EltTy → Type} (v : View sg κ sp sh e) (r : Rect sh) (hn : s'.numel = r.shape.numel)
    (hn' : r.shape.numel = s'.numel) (g : v.ty.Contents Val) (w : s'.Idx → Val e) (h : ((v.slice r).reshape s' hn).read Val g = w) :
    v.readAt Val r.toLoadRect g = fun y => w (Shape.reshapeEquiv hn' y) := by
  subst h; funext y
  have e : Shape.reshapeEquiv hn (Shape.reshapeEquiv hn' y) = y := by rw [Shape.reshapeEquiv_reshapeEquiv, Shape.reshapeEquiv_self]
  show (v.slice r).read Val g y = (v.slice r).read Val g (Shape.reshapeEquiv hn (Shape.reshapeEquiv hn' y))
  rw [e]

section RingStates
variable (c : Dev nD) (XA : Buf (Elt F) (arrA.view.loc (c : Thread nD τ))) (XB : Buf (Elt F) (arrB.view.loc (c : Thread nD τ))) (XC : Buf (Elt F) (arrC.view.loc (c : Thread nD τ)))

/-- Row block `b` of each array home. -/
abbrev homes (b : Fin 8) : sProp 𝕄 := iprop(homeA c XA b ∗ homeB c XB b ∗ homeC c XC b)
/-- Slot `s` of each buffer held, its cells at rest. -/
abbrev slots (s : Fin 4) : sProp 𝕄 := iprop((∃ f, slotPA c s f) ∗ (∃ f, slotPB c s f) ∗ (∃ f, slotPC c s f) ∗ cellP c 0 s ∗ cellP c 1 s ∗ cellP c 2 s)
/-- Row block `b` of an array in flight into slot `s`. -/
abbrev fliesA (s : Fin 4) (b : Fin 8) : sProp 𝕄 := iprop(∃ f, flyA c XA s b f)
abbrev fliesB (s : Fin 4) (b : Fin 8) : sProp 𝕄 := iprop(∃ f, flyB c XB s b f)
abbrev fliesC (s : Fin 4) (b : Fin 8) : sProp 𝕄 := iprop(∃ f, flyC c XC s b f)
/-- Row block `b` of each array in flight into slot `s`. -/
abbrev flies (s : Fin 4) (b : Fin 8) : sProp 𝕄 := iprop(fliesA c XA s b ∗ fliesB c XB s b ∗ fliesC c XC s b)

/-- A pair written cell by cell reads the two values, whatever was under them. -/
theorem read_pair (M : Memref sig .tc .smem S2 .f32) (f : M.view.ty.Contents (Elt F)) (i1) (i0) (p q : F .f32) (L) :
    M.view.read (Elt F) (M.view.writes (Elt F) f (⟨Rect.unit (s := S2) ![1] S1.size i1, fun _ => q⟩ :: ⟨Rect.unit (s := S2) ![0] S1.size i0, fun _ => p⟩ :: L)) = pair p q := by
  funext y
  refine (View.read_writes_cons_cell M.view f i1 q _ y).trans ?_
  have hy : (y 0).val < 2 := (y 0).isLt
  by_cases h : (y 0).val = 0
  · rw [if_neg (by rw [h]; decide)]
    refine (View.read_writes_cons_cell M.view f i0 p _ y).trans ?_
    rw [if_pos (by rw [h]; rfl)]; exact (if_pos h).symm
  · rw [if_pos (by show (y 0).val = 1; omega)]; exact (if_neg h).symm
/-- A load of one cell of a pair reads that cell. -/
theorem readAt_cell (M : Memref sig .tc .smem S2 .f32) (f : M.view.ty.Contents (Elt F)) (n : Fin 2) {off : Fin 1 → Nat} (e : off = ![n.val]) (inb) (h) :
    M.view.readAt (Elt F) (Rect.unit (s := S2) off S1.size inb).toLoadRect f (Shape.Idx.first h) = M.view.read (Elt F) f (i2 n) := by
  subst e; exact congrArg (M.view.read (Elt F) f) (funext fun a => Fin.ext (by fin_cases a; rfl))
/-- A load of the one element of a one-by-one array reads it. -/
theorem readAt_one (M : Memref sig .tc .smem S1x1 .f32) (f : M.view.ty.Contents (Elt F)) (inb) (h) :
    M.view.readAt (Elt F) (Rect.unit (s := S1x1) ![0, 0] S1x1.size inb).toLoadRect f (Shape.Idx.first h) = M.view.read (Elt F) f i11 :=
  congrArg (M.view.read (Elt F) f) (funext fun a => Fin.ext (by fin_cases a <;> rfl))

/-- A buffer that reads `Y` is held at `Y`. -/
theorem rep_of_read {sp : Space} {sh : Shape} {e : EltTy} (M : Memref sig .tc sp sh e) (f : Buf (Elt F) (M.view.loc (c : Thread nD τ))) (Y : sh.Idx → Elt F e)
    (h : M.view.read (Elt F) f = Y) :
    (M.view.loc (c : Thread nD τ) ↦[M.view.set]{fullShare} f : sProp 𝕄) ⊢ (M.view.loc (c : Thread nD τ) ↦[M.view.set]{fullShare} M.view.rep Y) := by
  rw [← owns_eq_rep]; unfold owns; iintro H; iexists f; isplitr; · ipureintro; exact h
  iexact H

/-- Block `b` of array A. -/
def blkA (X : Buf (Elt F) (arrA.view.loc (c : Thread nD τ))) (b : Fin 8) : Vec F S256x2048 .f32 := (rowsA b).view.read (Elt F) X
/-- A slot read through the whole buffer after block `b` has landed in it reads the block. -/
theorem read_slotA (X : Buf (Elt F) (arrA.view.loc (c : Thread nD τ))) (s : Fin 4) (b : Fin 8) (f : Buf (Elt F) ((slotA s).view.loc (c : Thread nD τ)))
    {off : Fin 3 → Nat} (e : off = slotOff s) (hh) :
    bufA.view.readAt (Elt F) (Rect.unit (s := S4x256x2048) off S1x256x2048.size hh).toLoadRect (landedA c X s b f) = lift (blkA c X b) := by
  subst e
  exact readAt_of_slot bufA.view _ (Shape.Squeezes.numel_eq squeezes_S1x256x2048_S256x2048) (lift_ok) _ _ (View.read_writes_whole (v := (slotA s).view) _ _)

/-- Block `b` of array B. -/
def blkB (X : Buf (Elt F) (arrB.view.loc (c : Thread nD τ))) (b : Fin 8) : Vec F S256x2048 .f32 := (rowsB b).view.read (Elt F) X
/-- A slot read through the whole buffer after block `b` has landed in it reads the block. -/
theorem read_slotB (X : Buf (Elt F) (arrB.view.loc (c : Thread nD τ))) (s : Fin 4) (b : Fin 8) (f : Buf (Elt F) ((slotB s).view.loc (c : Thread nD τ)))
    {off : Fin 3 → Nat} (e : off = slotOff s) (hh) :
    bufB.view.readAt (Elt F) (Rect.unit (s := S4x256x2048) off S1x256x2048.size hh).toLoadRect (landedB c X s b f) = lift (blkB c X b) := by
  subst e
  exact readAt_of_slot bufB.view _ (Shape.Squeezes.numel_eq squeezes_S1x256x2048_S256x2048) (lift_ok) _ _ (View.read_writes_whole (v := (slotB s).view) _ _)

/-- Block `b` of array C. -/
def blkC (X : Buf (Elt F) (arrC.view.loc (c : Thread nD τ))) (b : Fin 8) : Vec F S256x2048 .f32 := (rowsC b).view.read (Elt F) X
/-- A slot read through the whole buffer after block `b` has landed in it reads the block. -/
theorem read_slotC (X : Buf (Elt F) (arrC.view.loc (c : Thread nD τ))) (s : Fin 4) (b : Fin 8) (f : Buf (Elt F) ((slotC s).view.loc (c : Thread nD τ)))
    {off : Fin 3 → Nat} (e : off = slotOff s) (hh) :
    bufC.view.readAt (Elt F) (Rect.unit (s := S4x256x2048) off S1x256x2048.size hh).toLoadRect (landedC c X s b f) = lift (blkC c X b) := by
  subst e
  exact readAt_of_slot bufC.view _ (Shape.Squeezes.numel_eq squeezes_S1x256x2048_S256x2048) (lift_ok) _ _ (View.read_writes_whole (v := (slotC s).view) _ _)

/-- A copy of block `b` just put in flight into slot `s` of buffer A, over an earlier landing. -/
theorem fly_againA (X : Buf (Elt F) (arrA.view.loc (c : Thread nD τ))) (s : Fin 4) (b : Fin 8) (f : Buf (Elt F) ((slotA s).view.loc (c : Thread nD τ))) (w) (p)
    (hw : w = ReadAs.same.apply ((rowsA b).view.read (Elt F) X)) :
    (Transfers.Flight countersEmb (c : Thread nD τ) (SemLoc.dma (csm 0 s).sem) () 65536 iprop(slotPA c s ((slotA s).view.writes (Elt F) f [⟨Rect.whole S256x2048, w⟩, p]) ∗ homeA c X b) : sProp 𝕄)
      ⊢ fliesA c X s b := by
  subst hw
  iintro H; iexists ((slotA s).view.writes (Elt F) f [p]); simp only [flyA, landedA, slotPA, View.writes]; iexact H
/-- The same over any contents. -/
theorem fly_firstA (X : Buf (Elt F) (arrA.view.loc (c : Thread nD τ))) (s : Fin 4) (b : Fin 8) (f : Buf (Elt F) ((slotA s).view.loc (c : Thread nD τ))) (w)
    (hw : w = ReadAs.same.apply ((rowsA b).view.read (Elt F) X)) :
    (Transfers.Flight countersEmb (c : Thread nD τ) (SemLoc.dma (csm 0 s).sem) () 65536 iprop(slotPA c s ((slotA s).view.writes (Elt F) f [⟨Rect.whole S256x2048, w⟩]) ∗ homeA c X b) : sProp 𝕄)
      ⊢ fliesA c X s b := by
  subst hw
  iintro H; iexists f; iexact H

/-- A copy of block `b` just put in flight into slot `s` of buffer B, over an earlier landing. -/
theorem fly_againB (X : Buf (Elt F) (arrB.view.loc (c : Thread nD τ))) (s : Fin 4) (b : Fin 8) (f : Buf (Elt F) ((slotB s).view.loc (c : Thread nD τ))) (w) (p)
    (hw : w = ReadAs.same.apply ((rowsB b).view.read (Elt F) X)) :
    (Transfers.Flight countersEmb (c : Thread nD τ) (SemLoc.dma (csm 1 s).sem) () 65536 iprop(slotPB c s ((slotB s).view.writes (Elt F) f [⟨Rect.whole S256x2048, w⟩, p]) ∗ homeB c X b) : sProp 𝕄)
      ⊢ fliesB c X s b := by
  subst hw
  iintro H; iexists ((slotB s).view.writes (Elt F) f [p]); simp only [flyB, landedB, slotPB, View.writes]; iexact H
/-- The same over any contents. -/
theorem fly_firstB (X : Buf (Elt F) (arrB.view.loc (c : Thread nD τ))) (s : Fin 4) (b : Fin 8) (f : Buf (Elt F) ((slotB s).view.loc (c : Thread nD τ))) (w)
    (hw : w = ReadAs.same.apply ((rowsB b).view.read (Elt F) X)) :
    (Transfers.Flight countersEmb (c : Thread nD τ) (SemLoc.dma (csm 1 s).sem) () 65536 iprop(slotPB c s ((slotB s).view.writes (Elt F) f [⟨Rect.whole S256x2048, w⟩]) ∗ homeB c X b) : sProp 𝕄)
      ⊢ fliesB c X s b := by
  subst hw
  iintro H; iexists f; iexact H

/-- A copy of block `b` just put in flight into slot `s` of buffer C, over an earlier landing. -/
theorem fly_againC (X : Buf (Elt F) (arrC.view.loc (c : Thread nD τ))) (s : Fin 4) (b : Fin 8) (f : Buf (Elt F) ((slotC s).view.loc (c : Thread nD τ))) (w) (p)
    (hw : w = ReadAs.same.apply ((rowsC b).view.read (Elt F) X)) :
    (Transfers.Flight countersEmb (c : Thread nD τ) (SemLoc.dma (csm 2 s).sem) () 65536 iprop(slotPC c s ((slotC s).view.writes (Elt F) f [⟨Rect.whole S256x2048, w⟩, p]) ∗ homeC c X b) : sProp 𝕄)
      ⊢ fliesC c X s b := by
  subst hw
  iintro H; iexists ((slotC s).view.writes (Elt F) f [p]); simp only [flyC, landedC, slotPC, View.writes]; iexact H
/-- The same over any contents. -/
theorem fly_firstC (X : Buf (Elt F) (arrC.view.loc (c : Thread nD τ))) (s : Fin 4) (b : Fin 8) (f : Buf (Elt F) ((slotC s).view.loc (c : Thread nD τ))) (w)
    (hw : w = ReadAs.same.apply ((rowsC b).view.read (Elt F) X)) :
    (Transfers.Flight countersEmb (c : Thread nD τ) (SemLoc.dma (csm 2 s).sem) () 65536 iprop(slotPC c s ((slotC s).view.writes (Elt F) f [⟨Rect.whole S256x2048, w⟩]) ∗ homeC c X b) : sProp 𝕄)
      ⊢ fliesC c X s b := by
  subst hw
  iintro H; iexists f; iexact H

end RingStates

section Body
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S128x256 .f32) (harg10 : arg10.IsWhole)
  (arg11 : Memref sig .tc .vmem S1x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S64x128 .f32) (harg14 : arg14.IsWhole)
  (arg15 : Memref sig .tc .vmem S1x64 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S128x256 .f32) (harg23 : arg23.IsWhole)
  (arg24 : Memref sig .tc .vmem S1x128 .f32) (harg24 : arg24.IsWhole)
  (arg25 : Memref sig .tc .vmem S1x128 .f32) (harg25 : arg25.IsWhole)
  (arg26 : Memref sig .tc .vmem S1x128 .f32) (harg26 : arg26.IsWhole)
  (arg27 : Memref sig .tc .vmem S64x128 .f32) (harg27 : arg27.IsWhole)
  (arg28 : Memref sig .tc .vmem S1x64 .f32) (harg28 : arg28.IsWhole)
  (arg29 : Memref sig .tc .vmem S1x64 .f32) (harg29 : arg29.IsWhole)
  (arg30 : Memref sig .tc .vmem S1x64 .f32) (harg30 : arg30.IsWhole)
  (arg34 : Memref sig .tc .vmem S2x256x64 .f32) (harg34 : arg34.IsWhole)
  (arg35 : Memref sig .tc .vmem S2x256x64 .f32) (harg35 : arg35.IsWhole)
  (arg36 : Memref sig .tc .smem S1x1 .f32) (harg36 : arg36.IsWhole)
  (arg37 : Memref sig .tc .smem S2 .f32) (harg37 : arg37.IsWhole)
  (arg38 : Memref sig .tc .vmem S1x128 .f32) (harg38 : arg38.IsWhole)
  (arg39 : Memref sig .tc .vmem S2048x256 .f32) (harg39 : arg39.IsWhole)
  (arg40 : Memref sig .tc .vmem S2048x64 .f32) (harg40 : arg40.IsWhole)
  (arg41 : Memref sig .tc .vmem S2048x64 .f32) (harg41 : arg41.IsWhole)
  (arg45 : Memref sig .tc .smem S2 .f32) (harg45 : arg45.IsWhole)

/-- The body at grid point `i` on the given staging and scratch buffers, the arrays and buffers of the ring and the cells its own. -/
abbrev bodyG : Prog (TpuEff nD τ sig (Elt F) Λ₀ .tc) PUnit :=
  cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arrA (Memref.isWhole_whole _) arrB (Memref.isWhole_whole _) arrC (Memref.isWhole_whole _) arg34 harg34 arg35 harg35 arg36 harg36 arg37 harg37 arg38 harg38 arg39 harg39 arg40 harg40 arg41 harg41 bufA (Memref.isWhole_whole _) bufB (Memref.isWhole_whole _) bufC (Memref.isWhole_whole _) arg45 harg45 cc0_scratch7

/-- No loop of the body carries a variant. -/
abbrev 𝒱₀ : Variants := Variants.none

end Body
end Cert.KernelIdeal.Hand
end
-- ==== Proof.KI.State.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

/-! ## The blocks of the arrays and the slots of the buffers -/

/-- A slot is inside its buffer. -/
theorem slot_box (s : Fin 4) : ∀ a, slotOff s a + S1x256x2048.size a ≤ S4x256x2048.size a := slotOff_inb s
/-- The eight row blocks cover an array. -/
theorem row_cover : Finset.univ.biUnion (fun b : Fin 8 => (Rect.unit (s := S2048x2048) (rowOff b) S256x2048.size (rowOff_inb b)).set) = Finset.univ :=
  Ring.lead_cover (s := S2048x2048) (0 : Fin 2) 256 rowOff S256x2048.size rowOff_inb (fun b => rfl)
    (fun b a h => by fin_cases a; · exact absurd rfl h
                     · rfl) rfl (fun a h => by fin_cases a; · exact absurd rfl h
                                               · rfl) rfl
/-- Two row blocks do not meet. -/
theorem row_disjoint (b b' : Fin 8) (h : b ≠ b') :
    Disjoint (Rect.unit (s := S2048x2048) (rowOff b) S256x2048.size (rowOff_inb b)).set (Rect.unit (s := S2048x2048) (rowOff b') S256x2048.size (rowOff_inb b')).set :=
  Ring.lead_disjoint (s := S2048x2048) (0 : Fin 2) 256 rowOff S256x2048.size rowOff_inb (fun b => rfl) rfl b b' h
/-- The four slots cover a buffer. -/
theorem slot_cover : Finset.univ.biUnion (fun b : Fin 4 => (Rect.unit (s := S4x256x2048) (slotOff b) S1x256x2048.size (slotOff_inb b)).set) = Finset.univ :=
  Ring.lead_cover (s := S4x256x2048) (0 : Fin 3) 1 slotOff S1x256x2048.size slotOff_inb (fun b => (Nat.one_mul _).symm)
    (fun b a h => by fin_cases a; · exact absurd rfl h
                     · rfl
                     · rfl) rfl (fun a h => by fin_cases a; · exact absurd rfl h
                                               · rfl
                                               · rfl) rfl
/-- Two slots do not meet. -/
theorem slot_disjoint (b b' : Fin 4) (h : b ≠ b') :
    Disjoint (Rect.unit (s := S4x256x2048) (slotOff b) S1x256x2048.size (slotOff_inb b)).set (Rect.unit (s := S4x256x2048) (slotOff b') S1x256x2048.size (slotOff_inb b')).set :=
  Ring.lead_disjoint (s := S4x256x2048) (0 : Fin 3) 1 slotOff S1x256x2048.size slotOff_inb (fun b => (Nat.one_mul _).symm) rfl b b' h

section Split
variable (c : Dev nD)

/-- The elements of a block of array A. -/
theorem rows_setA (b : Fin 8) : (rowsA b).view.set = (Rect.unit (s := S2048x2048) (rowOff b) S256x2048.size (rowOff_inb b)).set :=
  View.set_slice_whole main_arg2 _
/-- The elements of a slot of buffer A. -/
theorem slot_setA (s : Fin 4) : (slotA s).view.set = (Rect.unit (s := S4x256x2048) (slotOff s) S1x256x2048.size (slotOff_inb s)).set :=
  (View.set_reshape _ _).trans (View.set_slice_whole cc0_scratch3 _)
/-- Array A held whole is held block by block. -/
theorem splitA (X : Buf (Elt F) ((c : Thread nD τ).loc main_arg2)) :
    ((c : Thread nD τ).loc main_arg2 ↦{fullShare} X : sProp 𝕄) = bigSep Finset.univ fun b : Fin 8 => homeA c X b :=
  Ring.pointsTo_blocks (ℓ := (c : Thread nD τ).loc main_arg2) (fun b : Fin 8 => (rowsA b).view.set) (fun b b' h => by rw [rows_setA, rows_setA]; exact row_disjoint b b' h)
    (by simp only [rows_setA]; exact row_cover) X
/-- Buffer A held whole is held slot by slot, and back. -/
theorem cutA (f : Buf (Elt F) ((c : Thread nD τ).loc cc0_scratch3)) :
    ((c : Thread nD τ).loc cc0_scratch3 ↦{fullShare} f : sProp 𝕄) = bigSep Finset.univ fun s : Fin 4 => slotPA c s f :=
  Ring.pointsTo_blocks (ℓ := (c : Thread nD τ).loc cc0_scratch3) (fun s : Fin 4 => (slotA s).view.set) (fun b b' h => by rw [slot_setA, slot_setA]; exact slot_disjoint b b' h)
    (by simp only [slot_setA]; exact slot_cover) f
/-- Buffer A held slot by slot is held whole. -/
theorem joinA [Inhabited (F .f32)] : (bigSep Finset.univ fun s : Fin 4 => iprop(∃ f, slotPA c s f) : sProp 𝕄) ⊢ iprop(∃ f, (c : Thread nD τ).loc cc0_scratch3 ↦{fullShare} f) :=
  Ring.pointsTo_blocks_join_exists (ℓ := (c : Thread nD τ).loc cc0_scratch3) (fun s : Fin 4 => (slotA s).view.set) (fun b b' h => by rw [slot_setA, slot_setA]; exact slot_disjoint b b' h)
    (by simp only [slot_setA]; exact slot_cover) (fun _ => (default : F .f32))

/-- The elements of a block of array B. -/
theorem rows_setB (b : Fin 8) : (rowsB b).view.set = (Rect.unit (s := S2048x2048) (rowOff b) S256x2048.size (rowOff_inb b)).set :=
  View.set_slice_whole main_arg3 _
/-- The elements of a slot of buffer B. -/
theorem slot_setB (s : Fin 4) : (slotB s).view.set = (Rect.unit (s := S4x256x2048) (slotOff s) S1x256x2048.size (slotOff_inb s)).set :=
  (View.set_reshape _ _).trans (View.set_slice_whole cc0_scratch4 _)
/-- Array B held whole is held block by block. -/
theorem splitB (X : Buf (Elt F) ((c : Thread nD τ).loc main_arg3)) :
    ((c : Thread nD τ).loc main_arg3 ↦{fullShare} X : sProp 𝕄) = bigSep Finset.univ fun b : Fin 8 => homeB c X b :=
  Ring.pointsTo_blocks (ℓ := (c : Thread nD τ).loc main_arg3) (fun b : Fin 8 => (rowsB b).view.set) (fun b b' h => by rw [rows_setB, rows_setB]; exact row_disjoint b b' h)
    (by simp only [rows_setB]; exact row_cover) X
/-- Buffer B held whole is held slot by slot, and back. -/
theorem cutB (f : Buf (Elt F) ((c : Thread nD τ).loc cc0_scratch4)) :
    ((c : Thread nD τ).loc cc0_scratch4 ↦{fullShare} f : sProp 𝕄) = bigSep Finset.univ fun s : Fin 4 => slotPB c s f :=
  Ring.pointsTo_blocks (ℓ := (c : Thread nD τ).loc cc0_scratch4) (fun s : Fin 4 => (slotB s).view.set) (fun b b' h => by rw [slot_setB, slot_setB]; exact slot_disjoint b b' h)
    (by simp only [slot_setB]; exact slot_cover) f
/-- Buffer B held slot by slot is held whole. -/
theorem joinB [Inhabited (F .f32)] : (bigSep Finset.univ fun s : Fin 4 => iprop(∃ f, slotPB c s f) : sProp 𝕄) ⊢ iprop(∃ f, (c : Thread nD τ).loc cc0_scratch4 ↦{fullShare} f) :=
  Ring.pointsTo_blocks_join_exists (ℓ := (c : Thread nD τ).loc cc0_scratch4) (fun s : Fin 4 => (slotB s).view.set) (fun b b' h => by rw [slot_setB, slot_setB]; exact slot_disjoint b b' h)
    (by simp only [slot_setB]; exact slot_cover) (fun _ => (default : F .f32))

/-- The elements of a block of array C. -/
theorem rows_setC (b : Fin 8) : (rowsC b).view.set = (Rect.unit (s := S2048x2048) (rowOff b) S256x2048.size (rowOff_inb b)).set :=
  View.set_slice_whole main_arg29 _
/-- The elements of a slot of buffer C. -/
theorem slot_setC (s : Fin 4) : (slotC s).view.set = (Rect.unit (s := S4x256x2048) (slotOff s) S1x256x2048.size (slotOff_inb s)).set :=
  (View.set_reshape _ _).trans (View.set_slice_whole cc0_scratch5 _)
/-- Array C held whole is held block by block. -/
theorem splitC (X : Buf (Elt F) ((c : Thread nD τ).loc main_arg29)) :
    ((c : Thread nD τ).loc main_arg29 ↦{fullShare} X : sProp 𝕄) = bigSep Finset.univ fun b : Fin 8 => homeC c X b :=
  Ring.pointsTo_blocks (ℓ := (c : Thread nD τ).loc main_arg29) (fun b : Fin 8 => (rowsC b).view.set) (fun b b' h => by rw [rows_setC, rows_setC]; exact row_disjoint b b' h)
    (by simp only [rows_setC]; exact row_cover) X
/-- Buffer C held whole is held slot by slot, and back. -/
theorem cutC (f : Buf (Elt F) ((c : Thread nD τ).loc cc0_scratch5)) :
    ((c : Thread nD τ).loc cc0_scratch5 ↦{fullShare} f : sProp 𝕄) = bigSep Finset.univ fun s : Fin 4 => slotPC c s f :=
  Ring.pointsTo_blocks (ℓ := (c : Thread nD τ).loc cc0_scratch5) (fun s : Fin 4 => (slotC s).view.set) (fun b b' h => by rw [slot_setC, slot_setC]; exact slot_disjoint b b' h)
    (by simp only [slot_setC]; exact slot_cover) f
/-- Buffer C held slot by slot is held whole. -/
theorem joinC [Inhabited (F .f32)] : (bigSep Finset.univ fun s : Fin 4 => iprop(∃ f, slotPC c s f) : sProp 𝕄) ⊢ iprop(∃ f, (c : Thread nD τ).loc cc0_scratch5 ↦{fullShare} f) :=
  Ring.pointsTo_blocks_join_exists (ℓ := (c : Thread nD τ).loc cc0_scratch5) (fun s : Fin 4 => (slotC s).view.set) (fun b b' h => by rw [slot_setC, slot_setC]; exact slot_disjoint b b' h)
    (by simp only [slot_setC]; exact slot_cover) (fun _ => (default : F .f32))

end Split

/-! ## The ring before a grid point -/

section RingState
variable (c : Dev nD) (XA : Buf (Elt F) (arrA.view.loc (c : Thread nD τ))) (XB : Buf (Elt F) (arrB.view.loc (c : Thread nD τ))) (XC : Buf (Elt F) (arrC.view.loc (c : Thread nD τ)))

/-- How far slot `s` has come before grid point `k`: at rest, its first block in flight, its second block in flight, at rest again. -/
def phase (k : ℕ) (s : Fin 4) : ℕ := if k ≤ 4 + s.val then 0 else if k ≤ 8 + s.val then 1 else if k ≤ 12 + s.val then 2 else 0
/-- A slot's state at a phase, its blocks at home where they don't fly. -/
def stOf (s : Fin 4) : ℕ → sProp 𝕄
  | 0 => iprop(slots c s ∗ homes c XA XB XC (blo s) ∗ homes c XA XB XC (bhi s))
  | 1 => iprop(flies c XA XB XC s (blo s) ∗ homes c XA XB XC (bhi s))
  | _ => iprop(flies c XA XB XC s (bhi s) ∗ homes c XA XB XC (blo s))
/-- Slot `s` before grid point `k`. -/
def slotSt (k : ℕ) (s : Fin 4) : sProp 𝕄 := stOf c XA XB XC s (phase k s)

/-- The ring before grid point `k`: each slot's state. -/
def ring (k : ℕ) : sProp 𝕄 := bigSep Finset.univ fun s : Fin 4 => slotSt c XA XB XC k s

/-- A grid point leaves every slot but its own alone. -/
theorem slotSt_other (k : ℕ) (hk : k < 16) (s : Fin 4) (h : k % 4 ≠ s.val) : (slotSt c XA XB XC k s : sProp 𝕄) = slotSt c XA XB XC (k + 1) s := by
  have := s.isLt
  have e : phase k s = phase (k + 1) s := by unfold phase; split_ifs <;> omega
  unfold slotSt; rw [e]
/-- Before the fourth point no slot changes. -/
theorem slotSt_early (k : ℕ) (hk : k < 4) (s : Fin 4) : (slotSt c XA XB XC k s : sProp 𝕄) = slotSt c XA XB XC (k + 1) s := by
  have := s.isLt
  have e : phase k s = phase (k + 1) s := by unfold phase; split_ifs <;> omega
  unfold slotSt; rw [e]
/-- Before the fourth point the ring stays as it is. -/
theorem ring_early (k : ℕ) (hk : k < 4) : (ring c XA XB XC k : sProp 𝕄) = ring c XA XB XC (k + 1) := by
  unfold ring; exact congrArg _ (funext fun s => slotSt_early c XA XB XC k hk s)
/-- The point's own slot taken out of the ring, and put back in its next state. -/
theorem ring_take (k : ℕ) (s : Fin 4) : (ring c XA XB XC k : sProp 𝕄) = iprop(slotSt c XA XB XC k s ∗ bigSep (Finset.univ.erase s) fun s => slotSt c XA XB XC k s) := by
  unfold ring; exact BI.bigSep_erase (Finset.mem_univ s)
/-- The point's own slot put back in its next state. -/
theorem ring_put (k : ℕ) (hk : k < 16) (s : Fin 4) (h : k % 4 = s.val) :
    (iprop(slotSt c XA XB XC (k + 1) s ∗ bigSep (Finset.univ.erase s) fun s => slotSt c XA XB XC k s) : sProp 𝕄) = ring c XA XB XC (k + 1) := by
  unfold ring; rw [BI.bigSep_erase (Finset.mem_univ s)]
  congr 1
  exact BI.bigSep_congr fun s' hs' => slotSt_other c XA XB XC k hk s' (fun e => (Finset.mem_erase.mp hs').1 (Fin.ext (by omega)))

/-- A slot before its first copy: at rest. -/
theorem slotSt_0 (k : ℕ) (s : Fin 4) (h : k ≤ 4 + s.val) : (slotSt c XA XB XC k s : sProp 𝕄) = iprop(slots c s ∗ homes c XA XB XC (blo s) ∗ homes c XA XB XC (bhi s)) := by
  have e : phase k s = 0 := by unfold phase; rw [if_pos h]
  unfold slotSt; rw [e]; rfl
/-- A slot between its two copies' starts: its first block in flight. -/
theorem slotSt_1 (k : ℕ) (s : Fin 4) (h : 4 + s.val < k) (h' : k ≤ 8 + s.val) : (slotSt c XA XB XC k s : sProp 𝕄) = iprop(flies c XA XB XC s (blo s) ∗ homes c XA XB XC (bhi s)) := by
  have e : phase k s = 1 := by unfold phase; rw [if_neg (by omega), if_pos h']
  unfold slotSt; rw [e]; rfl
/-- A slot after its second copy's start: its second block in flight. -/
theorem slotSt_2 (k : ℕ) (s : Fin 4) (h : 8 + s.val < k) (h' : k ≤ 12 + s.val) : (slotSt c XA XB XC k s : sProp 𝕄) = iprop(flies c XA XB XC s (bhi s) ∗ homes c XA XB XC (blo s)) := by
  have e : phase k s = 2 := by unfold phase; rw [if_neg (by omega), if_neg (by omega), if_pos h']
  unfold slotSt; rw [e]; rfl
/-- A slot after its last wait: at rest. -/
theorem slotSt_3 (k : ℕ) (s : Fin 4) (h : 12 + s.val < k) : (slotSt c XA XB XC k s : sProp 𝕄) = iprop(slots c s ∗ homes c XA XB XC (blo s) ∗ homes c XA XB XC (bhi s)) := by
  have e : phase k s = 0 := by unfold phase; rw [if_neg (by omega), if_neg (by omega), if_neg (by omega)]
  unfold slotSt; rw [e]; rfl
end RingState
end Cert.KernelIdeal.Hand
end
-- ==== Proof.KI.Traj.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Trajectory
variable (m : (ℓ : Loc nD τ sig) → Buf (Elt F) ℓ) (c : Dev nD)

/-- Grid point number `n`. -/
def tm (n : ℕ) : Fin cfg0.N := ⟨n % 16, Nat.mod_lt _ (by decide)⟩
/-- A point is the one with its number. -/
theorem tm_eq (t : Fin cfg0.N) (n : ℕ) (h : n = t.val) : tm n = t := by
  have := t.isLt; have e : cfg0.N = 16 := N_0
  subst h; exact Fin.ext (Nat.mod_eq_of_lt (by omega))

/-- The row block of the first encoder's sums that point `t` computes, and of the second's. -/
def sum1 (t : Fin cfg0.N) : Vec F S512x256 .f32 := k0_pay1 (iblk m c 0 t) (iblk m c 4 t) (iblk m c 1 t) (iblk m c 5 t) (iblk m c 6 t)
def sum2 (t : Fin cfg0.N) : Vec F S512x256 .f32 := k0_pay13 (iblk m c 2 t) (iblk m c 17 t) (iblk m c 3 t) (iblk m c 18 t) (iblk m c 19 t)
/-- A row's place in its block of 512. -/
def loc512 (y : S2048x256.Idx) : S512x256.Idx := fun a => match a with
  | ⟨0, _⟩ => ⟨(y 0).val % 512, Nat.mod_lt _ (by decide)⟩
  | ⟨1, _⟩ => ⟨(y 1).val, (y 1).isLt⟩
/-- All rows of the first encoder's sums, and of the second's. -/
def all1 : Vec F S2048x256 .f32 := fun y => sum1 m c (tm ((y 0).val / 512)) (loc512 y)
def all2 : Vec F S2048x256 .f32 := fun y => sum2 m c (tm (4 + (y 0).val / 512)) (loc512 y)
/-- The two encoders' results. -/
def out1 : Vec F S2048x64 .f32 := enc1 (all1 m c) (iblk m c 7 t0_3) (iblk m c 8 t0_3) (iblk m c 9 t0_3) (iblk m c 10 t0_3) (iblk m c 11 t0_3) (iblk m c 12 t0_3) (iblk m c 13 t0_3) (iblk m c 14 t0_3) (iblk m c 15 t0_3) (iblk m c 16 t0_3)
def out2 : Vec F S2048x64 .f32 := enc2 (all2 m c) (iblk m c 20 t0_7) (iblk m c 21 t0_7) (iblk m c 22 t0_7) (iblk m c 23 t0_7) (iblk m c 24 t0_7) (iblk m c 25 t0_7) (iblk m c 26 t0_7) (iblk m c 27 t0_7) (iblk m c 28 t0_7) (iblk m c 29 t0_7)
/-- A row block of 256 is inside the encoder's result. -/
theorem rows256_inb (j : Fin 8) : ∀ a, (![256 * j.val, 0] : Fin 2 → ℕ) a + (![256, 64] : Fin 2 → ℕ) a ≤ S2048x64.size a := by
  have := j.isLt; intro a; fin_cases a
  · show 256 * j.val + 256 ≤ 2048; omega
  · show 0 + 64 ≤ 64; omega
/-- Row block `j` of an encoder's result. -/
def rows256 (x : Vec F S2048x64 .f32) (j : Fin 8) : Vec F S256x64 .f32 := VecWindow.window x ![256 * j.val, 0] ![256, 64] (rows256_inb j)
/-- A load of those rows is the row block. -/
theorem window_rows256 (x : Vec F S2048x64 .f32) (j : Fin 8) {off : Fin 2 → ℕ} (e : off = ![256 * j.val, 0]) (h) :
    VecWindow.window x off ![256, 64] h = rows256 x j := by subst e; rfl
/-- The attention's row block number `n`. -/
def bn (n : ℕ) : Fin 8 := ⟨n % 8, Nat.mod_lt _ (by decide)⟩
/-- The two partial logits after one more attention step, at point `t` on row block `j`. -/
def step0 (t : Fin cfg0.N) (j : Fin 8) (a : F .f32) : F .f32 :=
  attn0 ((iblk m c 32 t) i11) (blkA c (V m c main_arg2) j) (blkB c (V m c main_arg3) j) (blkC c (V m c main_arg29) j)
    (out1 m c) (rows256 (out1 m c) j) (iblk m c 30 t) (out2 m c) (rows256 (out2 m c) j) (iblk m c 31 t) a
def step1 (t : Fin cfg0.N) (j : Fin 8) (a : F .f32) : F .f32 :=
  attn1 ((iblk m c 32 t) i11) (blkA c (V m c main_arg2) j) (blkB c (V m c main_arg3) j) (blkC c (V m c main_arg29) j)
    (out1 m c) (rows256 (out1 m c) j) (iblk m c 30 t) (out2 m c) (rows256 (out2 m c) j) (iblk m c 31 t) a
/-- The two logits after `n` attention steps. -/
def acc0 : ℕ → F .f32
  | 0 => FloatOps.ofBits FTy.f32 0#32
  | n + 1 => step0 m c (tm (8 + n)) (bn n) (acc0 n)
def acc1 : ℕ → F .f32
  | 0 => FloatOps.ofBits FTy.f32 0#32
  | n + 1 => step1 m c (tm (8 + n)) (bn n) (acc1 n)
/-- What the last point stores. -/
def fin : Vec F S1x128 .f32 := k0_pay4 (acc0 m c 8) ((iblk m c 33 t0_15) (i2 0)) (acc1 m c 8) ((iblk m c 33 t0_15) (i2 1))

/-- The scratch buffers before point `k`: the rows of the sums so far, the encoders' results when done, the logits so far. -/
structure Inv (k : ℕ) (x39 : Vec F S2048x256 .f32) (x40 x41 : Vec F S2048x64 .f32) (x45 : Vec F S2 .f32) : Prop where
  s1 : k ≤ 4 → ∀ y : S2048x256.Idx, (y 0).val < 512 * k → x39 y = all1 m c y
  e1 : 4 ≤ k → x40 = out1 m c
  s2 : 4 ≤ k → ∀ y : S2048x256.Idx, (y 0).val < 512 * (k - 4) → x39 y = all2 m c y
  e2 : 8 ≤ k → x41 = out2 m c
  ac : 9 ≤ k → x45 = pair (acc0 m c (k - 8)) (acc1 m c (k - 8))

/-- A point's coordinate is its number. -/
theorem coords_val (t : Fin cfg0.N) : (grid0.coords t 0).val = t.val := by
  rcases fin_N0 t with h | h | h | h | h | h | h | h | h | h | h | h | h | h | h | h <;> subst h <;> decide

/-- Rows put at their block: done below `k`, done below `k + 1`. -/
theorem put_rows (f : Vec F S2048x256 .f32) (x : Vec F S2048x256 .f32) (w : Vec F S512x256 .f32) (k : ℕ)
    (hw : ∀ y : S2048x256.Idx, (y 0).val / 512 = k → f y = w (loc512 y)) (h : ∀ y : S2048x256.Idx, (y 0).val < 512 * k → x y = f y)
    {off : Fin 2 → ℕ} (e : off = ![512 * k, 0]) (y : S2048x256.Idx) (hy : (y 0).val < 512 * (k + 1)) :
    VecWindow.put x off ![512, 256] w y = f y := by
  subst e; unfold VecWindow.put
  by_cases hin : ∀ a, (![512 * k, 0] : Fin 2 → ℕ) a ≤ (y a).val ∧ (y a).val < (![512 * k, 0] : Fin 2 → ℕ) a + (![512, 256] : Fin 2 → ℕ) a
  · rw [dif_pos hin]
    have h0 : 512 * k ≤ (y 0).val ∧ (y 0).val < 512 * k + 512 := hin 0
    rw [hw y (by omega)]
    congr 1
    funext a; apply Fin.ext; fin_cases a
    · show (y 0).val - 512 * k = (y 0).val % 512; omega
    · show (y 1).val - 0 = (y 1).val; omega
  · rw [dif_neg hin]
    apply h
    by_contra hlt
    apply hin; intro a; fin_cases a
    · show 512 * k ≤ (y 0).val ∧ (y 0).val < 512 * k + 512; omega
    · have : (y 1).val < 256 := (y 1).isLt
      show 0 ≤ (y 1).val ∧ (y 1).val < 0 + 256; omega

/-- Before the first point nothing is asked. -/
theorem inv_zero (x39) (x40) (x41) (x45) : Inv m c 0 x39 x40 x41 x45 :=
  ⟨fun _ y h => absurd h (by omega), fun h => absurd h (by omega), fun h => absurd h (by omega), fun h => absurd h (by omega), fun h => absurd h (by omega)⟩

variable {m c}
variable {x39 : Vec F S2048x256 .f32} {x40 x41 : Vec F S2048x64 .f32} {x45 : Vec F S2 .f32} (t : Fin cfg0.N)

/-- The first encoder's sums after a point's store: its rows and those before it. -/
theorem sums1 (h : Inv m c t.val x39 x40 x41 x45) (ht : t.val < 4) (y : S2048x256.Idx) (hy : (y 0).val < 512 * (t.val + 1)) :
    VecWindow.put x39 (k0_off1 (grid0.coords t)) ![512, 256] (sum1 m c t) y = all1 m c y :=
  put_rows (all1 m c) x39 (sum1 m c t) t.val (fun y hy => by unfold all1; rw [tm_eq t _ hy]) (h.s1 (by omega)) (by rw [off1_eq, coords_val]) y hy
/-- The second encoder's sums after a point's store. -/
theorem sums2 (h : Inv m c t.val x39 x40 x41 x45) (ht : 4 ≤ t.val) (ht' : t.val < 8) (h3 : k0_cond3 (grid0.coords t) = 1#1) (y : S2048x256.Idx) (hy : (y 0).val < 512 * (t.val - 4 + 1)) :
    VecWindow.put x39 (k0_off2 (grid0.coords t)) ![512, 256] (sum2 m c t) y = all2 m c y :=
  put_rows (all2 m c) x39 (sum2 m c t) (t.val - 4) (fun y hy => by unfold all2; rw [tm_eq t _ (by omega)]) (h.s2 (by omega)) (by rw [off2_eq _ h3, coords_val]) y hy

/-- A point before the fourth keeps the invariant. -/
theorem invA (h : Inv m c t.val x39 x40 x41 x45) (ht : t.val < 3) :
    Inv m c (t.val + 1) (VecWindow.put x39 (k0_off1 (grid0.coords t)) ![512, 256] (sum1 m c t)) x40 x41 x45 :=
  ⟨fun _ y hy => sums1 t h (by omega) y hy, fun h => absurd h (by omega), fun h => absurd h (by omega), fun h => absurd h (by omega), fun h => absurd h (by omega)⟩
/-- After the fourth point all the first encoder's sums are there. -/
theorem full1 (h : Inv m c t.val x39 x40 x41 x45) (ht : t.val = 3) : VecWindow.put x39 (k0_off1 (grid0.coords t)) ![512, 256] (sum1 m c t) = all1 m c :=
  funext fun y => sums1 t h (by omega) y (by have : (y 0).val < 2048 := (y 0).isLt; omega)
/-- After the eighth point all the second encoder's sums are there. -/
theorem full2 (h : Inv m c t.val x39 x40 x41 x45) (ht : t.val = 7) (h3 : k0_cond3 (grid0.coords t) = 1#1) : VecWindow.put x39 (k0_off2 (grid0.coords t)) ![512, 256] (sum2 m c t) = all2 m c :=
  funext fun y => sums2 t h (by omega) (by omega) h3 y (by have : (y 0).val < 2048 := (y 0).isLt; omega)
/-- The fourth point keeps it, the first encoder's result stored. -/
theorem invB (h : Inv m c t.val x39 x40 x41 x45) (ht : t.val = 3) :
    Inv m c (t.val + 1) (all1 m c) (out1 m c) x41 x45 :=
  ⟨fun _ y hy => rfl, fun _ => rfl, fun _ y hy => absurd hy (by omega), fun h => absurd h (by omega), fun h => absurd h (by omega)⟩
/-- A point of the second encoder before its last keeps it. -/
theorem invC (h : Inv m c t.val x39 x40 x41 x45) (ht : 4 ≤ t.val) (ht' : t.val < 7) (h3 : k0_cond3 (grid0.coords t) = 1#1) :
    Inv m c (t.val + 1) (VecWindow.put x39 (k0_off2 (grid0.coords t)) ![512, 256] (sum2 m c t)) x40 x41 x45 :=
  ⟨fun h => absurd h (by omega), fun _ => h.e1 ht, fun _ y hy => sums2 t h ht (by omega) h3 y (by omega), fun h => absurd h (by omega), fun h => absurd h (by omega)⟩
/-- The eighth point keeps it, the second encoder's result stored. -/
theorem invD (h : Inv m c t.val x39 x40 x41 x45) (ht : t.val = 7) :
    Inv m c (t.val + 1) (all2 m c) x40 (out2 m c) x45 :=
  ⟨fun h => absurd h (by omega), fun _ => h.e1 (by omega), fun _ y hy => rfl, fun _ => rfl, fun h => absurd h (by omega)⟩
/-- An attention step keeps it, the logits one step on. -/
theorem invE (h : Inv m c t.val x39 x40 x41 x45) (ht : 8 ≤ t.val) :
    Inv m c (t.val + 1) x39 x40 x41 (pair (acc0 m c (t.val + 1 - 8)) (acc1 m c (t.val + 1 - 8))) :=
  ⟨fun h => absurd h (by omega), fun _ => h.e1 (by omega), fun _ y hy => by
      have hh : (y 0).val < 2048 := (y 0).isLt
      exact h.s2 (by omega) y (by omega), fun _ => h.e2 (by omega), fun _ => rfl⟩
/-- One attention step of the accumulators at point `t`, in the words of the body's run. -/
theorem acc0_step (ht : 8 ≤ t.val) (b : Fin 8) (hb : b.val = t.val - 8) : acc0 m c (t.val + 1 - 8) = step0 m c t b (acc0 m c (t.val - 8)) := by
  have e : t.val + 1 - 8 = (t.val - 8) + 1 := by omega
  have e1 : tm (8 + (t.val - 8)) = t := tm_eq t _ (by omega)
  have e2 : bn (t.val - 8) = b := Fin.ext (by have := b.isLt; show (t.val - 8) % 8 = b.val; omega)
  rw [e]; show step0 m c (tm (8 + (t.val - 8))) (bn (t.val - 8)) _ = _; rw [e1, e2]
/-- The same for the second logit. -/
theorem acc1_step (ht : 8 ≤ t.val) (b : Fin 8) (hb : b.val = t.val - 8) : acc1 m c (t.val + 1 - 8) = step1 m c t b (acc1 m c (t.val - 8)) := by
  have e : t.val + 1 - 8 = (t.val - 8) + 1 := by omega
  have e1 : tm (8 + (t.val - 8)) = t := tm_eq t _ (by omega)
  have e2 : bn (t.val - 8) = b := Fin.ext (by have := b.isLt; show (t.val - 8) % 8 = b.val; omega)
  rw [e]; show step1 m c (tm (8 + (t.val - 8))) (bn (t.val - 8)) _ = _; rw [e1, e2]

/-- Which of the body's branches run at a point. -/
theorem conds (t : Fin cfg0.N) :
    (k0_cond1 (grid0.coords t) = 1#1 ↔ t.val < 4) ∧ (c2 (grid0.coords t) = 1#1 ↔ t.val = 3) ∧ (k0_cond3 (grid0.coords t) = 1#1 ↔ 4 ≤ t.val ∧ t.val < 8)
    ∧ (c4 (grid0.coords t) = 1#1 ↔ t.val = 7) ∧ (k0_cond5 (grid0.coords t) = 1#1 ↔ 8 ≤ t.val) ∧ (c6 (grid0.coords t) = 1#1 ↔ t.val = 8)
    ∧ (k0_cond7 (grid0.coords t) = 1#1 ↔ t.val < 12) ∧ (k0_cond8 (grid0.coords t) = 1#1 ↔ t.val = 15) := by
  rcases fin_N0 t with h | h | h | h | h | h | h | h | h | h | h | h | h | h | h | h <;> subst h <;> decide
end Trajectory
end Cert.KernelIdeal.Hand
end
-- ==== Proof.KI.Inv.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Traj

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Steps
variable (m : (ℓ : Loc nD τ sig) → Buf (Elt F) ℓ) (c : Dev nD)

/-- The body's invariant before point `k`: the scratch buffers at contents of the trajectory, the ring, the generator's register. -/
def Phi (k : ℕ) : sProp 𝕄 :=
  iprop(∃ x39 x40 x41 x45, ⌜Inv m c k x39 x40 x41 x45⌝ ∗ owns (c : Thread nD τ) (Memref.whole cc0_scratch0) fullShare x39 ∗ owns (c : Thread nD τ) (Memref.whole cc0_scratch1) fullShare x40
    ∗ owns (c : Thread nD τ) (Memref.whole cc0_scratch2) fullShare x41 ∗ owns (c : Thread nD τ) (Memref.whole cc0_scratch6) fullShare x45
    ∗ ring c (V m c main_arg2) (V m c main_arg3) (V m c main_arg29) k ∗ (∃ r, prngReg c r))
/-- What the core owes: nothing. -/
def Owe : sProp 𝕄 := iprop(∃ W, owes (c : Thread nD τ) 0 W)
/-- The input windows' staging buffers, each at its block of point `t`. -/
def Ins (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t) ∗ owns (c : Thread nD τ) (st0_22 t) fullShare (iblk m c 22 t) ∗ owns (c : Thread nD τ) (st0_23 t) fullShare (iblk m c 23 t) ∗ owns (c : Thread nD τ) (st0_24 t) fullShare (iblk m c 24 t) ∗ owns (c : Thread nD τ) (st0_25 t) fullShare (iblk m c 25 t) ∗ owns (c : Thread nD τ) (st0_26 t) fullShare (iblk m c 26 t) ∗ owns (c : Thread nD τ) (st0_27 t) fullShare (iblk m c 27 t) ∗ owns (c : Thread nD τ) (st0_28 t) fullShare (iblk m c 28 t) ∗ owns (c : Thread nD τ) (st0_29 t) fullShare (iblk m c 29 t) ∗ owns (c : Thread nD τ) (st0_30 t) fullShare (iblk m c 30 t) ∗ owns (c : Thread nD τ) (st0_31 t) fullShare (iblk m c 31 t) ∗ owns (c : Thread nD τ) (st0_32 t) fullShare (iblk m c 32 t) ∗ owns (c : Thread nD τ) (st0_33 t) fullShare (iblk m c 33 t))
/-- The output window's staging buffer at contents `x`. -/
def Out (t : Fin cfg0.N) (x : Vec F S1x128 .f32) : sProp 𝕄 := owns (c : Thread nD τ) (st0_34 t) fullShare x

end Steps
end Cert.KernelIdeal.Hand
end
-- ==== Proof.KI.Data.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

/-! ## The launch: what is the kernel's own, and the invariant at the two ends -/

/-- The twelve cells of the ring, array by array and slot by slot. -/
abbrev osem0 : Fin 3 × Fin 4 → SemLoc sig := fun p => SemLoc.dma (csm p.1 p.2).sem
/-- The twelve cells are the kernel's own. -/
theorem ownSemFacts0 : Pipeline.OwnSemFacts spec0 osem0 := by decide
/-- The three arrays that the body reads by transfers of its own. -/
def H0 : Finset (Ref sig .tc) := {main_arg2, main_arg3, main_arg29}
/-- The three arrays are none that a window stages. -/
theorem H0_sub : H0 ⊆ Pipeline.restRefs sig spec0 := by decide

section Ends
variable (m : (ℓ : Loc nD τ sig) → Buf (Elt F) ℓ) (c : Dev nD)

/-- The cells held, one by one. -/
theorem ownSems00_eq :
    (Pipeline.ownSems0 (Ix := Unit) (Name := ℕ) (U := Pipeline.UD sig nD τ) (Lvl := ℕ) (Val := Elt F) (τ := τ) osem0 c : sProp 𝕄)
      = iprop((bigSep Finset.univ fun s : Fin 4 => cellP c 0 s) ∗ (bigSep Finset.univ fun s : Fin 4 => cellP c 1 s) ∗ (bigSep Finset.univ fun s : Fin 4 => cellP c 2 s)) := by
  unfold Pipeline.ownSems0
  rw [BI.bigSep_univ_prod, Ring.bigSep_fin3]
/-- The three arrays held, one by one. -/
theorem hbmPts0_eq :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)
          ∗ (((c : Thread nD τ).loc main_arg29) ↦{fullShare} V m c main_arg29)) := by
  rw [BI.bigSep_eq_bigSepL_of_eq [main_arg2, main_arg3, main_arg29] (by decide) (by decide)]; rfl

/-- Eight blocks are the first four and the last four. -/
theorem lohi (P : Fin 8 → sProp 𝕄) : bigSep Finset.univ P = iprop((bigSep Finset.univ fun s : Fin 4 => P (blo s)) ∗ (bigSep Finset.univ fun s : Fin 4 => P (bhi s))) := by
  rw [bigSep_univ_eq_bigSepL [(0 : Fin 8), 1, 2, 3, 4, 5, 6, 7] (by decide) (by decide) P,
    bigSep_univ_eq_bigSepL [(0 : Fin 4), 1, 2, 3] (by decide) (by decide) (fun s => P (blo s)), bigSep_univ_eq_bigSepL [(0 : Fin 4), 1, 2, 3] (by decide) (by decide) (fun s => P (bhi s))]
  have h1 : (iprop(P 0 ∗ P 1 ∗ P 2 ∗ P 3 ∗ P 4 ∗ P 5 ∗ P 6 ∗ P 7) : sProp 𝕄) ⊢ iprop((P 0 ∗ P 1 ∗ P 2 ∗ P 3) ∗ (P 4 ∗ P 5 ∗ P 6 ∗ P 7)) := by
    iintro ⟨H0, H1, H2, H3, H4⟩
    isplitl [H0 H1 H2 H3]
    · isplitl [H0]; · iexact H0
      isplitl [H1]; · iexact H1
      isplitl [H2]; · iexact H2
      iexact H3
    iexact H4
  have h2 : (iprop((P 0 ∗ P 1 ∗ P 2 ∗ P 3) ∗ (P 4 ∗ P 5 ∗ P 6 ∗ P 7)) : sProp 𝕄) ⊢ iprop(P 0 ∗ P 1 ∗ P 2 ∗ P 3 ∗ P 4 ∗ P 5 ∗ P 6 ∗ P 7) := by
    iintro ⟨⟨H0, H1, H2, H3⟩, H4⟩
    isplitl [H0]; · iexact H0
    isplitl [H1]; · iexact H1
    isplitl [H2]; · iexact H2
    isplitl [H3]; · iexact H3
    iexact H4
  exact Entails.antisymm h1 h2

/-- The ring at rest: every slot of every buffer held, every cell at rest, every block at home. -/
theorem ring_rest (XA : Buf (Elt F) (arrA.view.loc (c : Thread nD τ))) (XB : Buf (Elt F) (arrB.view.loc (c : Thread nD τ))) (XC : Buf (Elt F) (arrC.view.loc (c : Thread nD τ)))
    (k : ℕ) (hk : ∀ s : Fin 4, phase k s = 0) : (ring c XA XB XC k : sProp 𝕄)
      = iprop(((bigSep Finset.univ fun s : Fin 4 => iprop(∃ f, slotPA c s f)) ∗ (bigSep Finset.univ fun s : Fin 4 => iprop(∃ f, slotPB c s f)) ∗ (bigSep Finset.univ fun s : Fin 4 => iprop(∃ f, slotPC c s f))
            ∗ (bigSep Finset.univ fun s : Fin 4 => cellP c 0 s) ∗ (bigSep Finset.univ fun s : Fin 4 => cellP c 1 s) ∗ (bigSep Finset.univ fun s : Fin 4 => cellP c 2 s))
          ∗ ((bigSep Finset.univ fun s : Fin 4 => homeA c XA (blo s)) ∗ (bigSep Finset.univ fun s : Fin 4 => homeB c XB (blo s)) ∗ (bigSep Finset.univ fun s : Fin 4 => homeC c XC (blo s)))
          ∗ ((bigSep Finset.univ fun s : Fin 4 => homeA c XA (bhi s)) ∗ (bigSep Finset.univ fun s : Fin 4 => homeB c XB (bhi s)) ∗ (bigSep Finset.univ fun s : Fin 4 => homeC c XC (bhi s)))) := by
  have e : ring (F := F) c XA XB XC k = bigSep Finset.univ fun s : Fin 4 => iprop(slots c s ∗ homes c XA XB XC (blo s) ∗ homes c XA XB XC (bhi s)) := by
    unfold ring; exact congrArg _ (funext fun s => by unfold slotSt; rw [hk]; rfl)
  rw [e]
  unfold slots homes
  simp only [BI.bigSep_sep']

/-- The launch gives the invariant before the first point. -/
theorem hin : Pipeline.ΦD osem0 spec0 H0 (V m) c ⊢ (Phi m c 0 : sProp 𝕄) := by
  rw [Pipeline.ΦD_eq, scopedRest0_eq, ownSems00_eq, hbmPts0_eq]
  unfold Phi
  rw [ring_rest c _ _ _ 0 (by decide), splitA, splitB, splitC, lohi (fun b => homeA c (V m c main_arg2) b), lohi (fun b => homeB c (V m c main_arg3) b), lohi (fun b => homeC c (V m c main_arg29) b)]
  simp only [owns_whole]
  iintro ⟨⟨⟨%f0, S0⟩, ⟨%f1, S1⟩, ⟨%f2, S2⟩, ⟨%f3, S3⟩, ⟨%f4, S4⟩, ⟨%f5, S5⟩, ⟨%f6, S6⟩⟩, Hg, ⟨C0, C1, C2⟩, ⟨⟨A0, A1⟩, ⟨B0, B1⟩, ⟨D0, D1⟩⟩⟩
  iexists f0, f1, f2, f6
  isplitr; · ipureintro; exact inv_zero m c f0 f1 f2 f6
  isplitl [S0]; · iexact S0
  isplitl [S1]; · iexact S1
  isplitl [S2]; · iexact S2
  isplitl [S6]; · iexact S6
  isplitr [Hg]
  · isplitl [S3 S4 S5 C0 C1 C2]
    · isplitl [S3]
      · iapply ((Entails.of_eq (cutA c f3)).trans (BI.bigSep_mono fun s _ => (by iintro H; iexists f3; iexact H : slotPA c s f3 ⊢ iprop(∃ f, slotPA c s f)))); iexact S3
      isplitl [S4]
      · iapply ((Entails.of_eq (cutB c f4)).trans (BI.bigSep_mono fun s _ => (by iintro H; iexists f4; iexact H : slotPB c s f4 ⊢ iprop(∃ f, slotPB c s f)))); iexact S4
      isplitl [S5]
      · iapply ((Entails.of_eq (cutC c f5)).trans (BI.bigSep_mono fun s _ => (by iintro H; iexists f5; iexact H : slotPC c s f5 ⊢ iprop(∃ f, slotPC c s f)))); iexact S5
      isplitl [C0]; · iexact C0
      isplitl [C1]; · iexact C1
      iexact C2
    isplitl [A0 B0 D0]
    · isplitl [A0]; · iexact A0
      isplitl [B0]; · iexact B0
      iexact D0
    isplitl [A1]; · iexact A1
    isplitl [B1]; · iexact B1
    iexact D1
  iexact Hg

/-- The invariant after the last point gives back what the launch took. -/
theorem hout [Inhabited (F .f32)] : (Phi m c 16 : sProp 𝕄) ⊢ Pipeline.ΦD osem0 spec0 H0 (V m) c := by
  rw [Pipeline.ΦD_eq, scopedRest0_eq, ownSems00_eq, hbmPts0_eq]
  unfold Phi
  rw [ring_rest c _ _ _ 16 (by decide), splitA, splitB, splitC, lohi (fun b => homeA c (V m c main_arg2) b), lohi (fun b => homeB c (V m c main_arg3) b), lohi (fun b => homeC c (V m c main_arg29) b)]
  simp only [owns_whole]
  iintro ⟨%f0, %f1, %f2, %f6, -, S0, S1, S2, S6, ⟨⟨S3, S4, S5, C0, C1, C2⟩, ⟨A0, B0, D0⟩, ⟨A1, B1, D1⟩⟩, Hg⟩
  isplitl [S0 S1 S2 S3 S4 S5 S6]
  · isplitl [S0]; · iexists f0; iexact S0
    isplitl [S1]; · iexists f1; iexact S1
    isplitl [S2]; · iexists f2; iexact S2
    isplitl [S3]; · iapply (joinA c); iexact S3
    isplitl [S4]; · iapply (joinB c); iexact S4
    isplitl [S5]; · iapply (joinC c); iexact S5
    iexists f6; iexact S6
  isplitl [Hg]; · iexact Hg
  isplitl [C0 C1 C2]
  · isplitl [C0]; · iexact C0
    isplitl [C1]; · iexact C1
    iexact C2
  isplitl [A0 A1]
  · isplitl [A0]; · iexact A0
    iexact A1
  isplitl [B0 B1]
  · isplitl [B0]; · iexact B0
    iexact B1
  isplitl [D0]; · iexact D0
  iexact D1
end Ends

/-! ## The proof data of the region -/

section Data
variable (m : (ℓ : Loc nD τ sig) → Buf (Elt F) ℓ)

/-- The pipeline's data: the arrays as the region finds them, every input window's block left in place, the result stored at the last point, the invariant of the ring. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => fin m c
    | ⟨_ + 35, h⟩ => absurd h (Nat.not_lt.2 (Nat.le_add_left _ _))
  Φ t := Phi m c t.val
  q w := Pipeline.shareOf spec0 w
  owed _ := 0

/-- A window's array is as the region finds it. -/
theorem A_eq (c : Dev nD) (w : Fin cfg0.W) : (dats m 0 c).A w = V m c (Pipeline.arrRef spec0 w) := by
  dsimp only [dats]
/-- The result window's buffer holds the result. -/
theorem after_34 (c : Dev nD) (t : Fin cfg0.N) : (dats m 0 c).after 34 t = fin m c := by dsimp only [dats]
/-! An input window's buffer holds the window's block of its array, before the body and after it. -/
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem after_20 (c : Dev nD) (t : Fin cfg0.N) : (dats m 0 c).after 20 t = iblk m c 20 t := by dsimp only [dats]
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem after_21 (c : Dev nD) (t : Fin cfg0.N) : (dats m 0 c).after 21 t = iblk m c 21 t := by dsimp only [dats]
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem after_22 (c : Dev nD) (t : Fin cfg0.N) : (dats m 0 c).after 22 t = iblk m c 22 t := by dsimp only [dats]
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem after_23 (c : Dev nD) (t : Fin cfg0.N) : (dats m 0 c).after 23 t = iblk m c 23 t := by dsimp only [dats]
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem after_24 (c : Dev nD) (t : Fin cfg0.N) : (dats m 0 c).after 24 t = iblk m c 24 t := by dsimp only [dats]
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)
theorem after_25 (c : Dev nD) (t : Fin cfg0.N) : (dats m 0 c).after 25 t = iblk m c 25 t := by dsimp only [dats]
theorem before_25 (c : Dev nD) (t : Fin cfg0.N) (d) : (dats m 0 c).before 25 t d = iblk m c 25 t :=
  ((dats m 0 c).before_in_eq_fetched 25 rfl (fun _ => rfl) (fun _ _ _ => rfl) (fun t => by rw [after_25]; unfold Dat.blockOf iblk; rw [A_eq]; try rfl) t d).trans
    (by unfold Dat.fetched Dat.blockOf iblk; rw [A_eq]; try rfl)
theorem after_26 (c : Dev nD) (t : Fin cfg0.N) : (dats m 0 c).after 26 t = iblk m c 26 t := by dsimp only [dats]
theorem before_26 (c : Dev nD) (t : Fin cfg0.N) (d) : (dats m 0 c).before 26 t d = iblk m c 26 t :=
  ((dats m 0 c).before_in_eq_fetched 26 rfl (fun _ => rfl) (fun _ _ _ => rfl) (fun t => by rw [after_26]; unfold Dat.blockOf iblk; rw [A_eq]; try rfl) t d).trans
    (by unfold Dat.fetched Dat.blockOf iblk; rw [A_eq]; try rfl)
theorem after_27 (c : Dev nD) (t : Fin cfg0.N) : (dats m 0 c).after 27 t = iblk m c 27 t := by dsimp only [dats]
theorem before_27 (c : Dev nD) (t : Fin cfg0.N) (d) : (dats m 0 c).before 27 t d = iblk m c 27 t :=
  ((dats m 0 c).before_in_eq_fetched 27 rfl (fun _ => rfl) (fun _ _ _ => rfl) (fun t => by rw [after_27]; unfold Dat.blockOf iblk; rw [A_eq]; try rfl) t d).trans
    (by unfold Dat.fetched Dat.blockOf iblk; rw [A_eq]; try rfl)
theorem after_28 (c : Dev nD) (t : Fin cfg0.N) : (dats m 0 c).after 28 t = iblk m c 28 t := by dsimp only [dats]
theorem before_28 (c : Dev nD) (t : Fin cfg0.N) (d) : (dats m 0 c).before 28 t d = iblk m c 28 t :=
  ((dats m 0 c).before_in_eq_fetched 28 rfl (fun _ => rfl) (fun _ _ _ => rfl) (fun t => by rw [after_28]; unfold Dat.blockOf iblk; rw [A_eq]; try rfl) t d).trans
    (by unfold Dat.fetched Dat.blockOf iblk; rw [A_eq]; try rfl)
theorem after_29 (c : Dev nD) (t : Fin cfg0.N) : (dats m 0 c).after 29 t = iblk m c 29 t := by dsimp only [dats]
theorem before_29 (c : Dev nD) (t : Fin cfg0.N) (d) : (dats m 0 c).before 29 t d = iblk m c 29 t :=
  ((dats m 0 c).before_in_eq_fetched 29 rfl (fun _ => rfl) (fun _ _ _ => rfl) (fun t => by rw [after_29]; unfold Dat.blockOf iblk; rw [A_eq]; try rfl) t d).trans
    (by unfold Dat.fetched Dat.blockOf iblk; rw [A_eq]; try rfl)
theorem after_30 (c : Dev nD) (t : Fin cfg0.N) : (dats m 0 c).after 30 t = iblk m c 30 t := by dsimp only [dats]
theorem before_30 (c : Dev nD) (t : Fin cfg0.N) (d) : (dats m 0 c).before 30 t d = iblk m c 30 t :=
  ((dats m 0 c).before_in_eq_fetched 30 rfl (fun _ => rfl) (fun _ _ _ => rfl) (fun t => by rw [after_30]; unfold Dat.blockOf iblk; rw [A_eq]; try rfl) t d).trans
    (by unfold Dat.fetched Dat.blockOf iblk; rw [A_eq]; try rfl)
theorem after_31 (c : Dev nD) (t : Fin cfg0.N) : (dats m 0 c).after 31 t = iblk m c 31 t := by dsimp only [dats]
theorem before_31 (c : Dev nD) (t : Fin cfg0.N) (d) : (dats m 0 c).before 31 t d = iblk m c 31 t :=
  ((dats m 0 c).before_in_eq_fetched 31 rfl (fun _ => rfl) (fun _ _ _ => rfl) (fun t => by rw [after_31]; unfold Dat.blockOf iblk; rw [A_eq]; try rfl) t d).trans
    (by unfold Dat.fetched Dat.blockOf iblk; rw [A_eq]; try rfl)
theorem after_32 (c : Dev nD) (t : Fin cfg0.N) : (dats m 0 c).after 32 t = iblk m c 32 t := by dsimp only [dats]
theorem before_32 (c : Dev nD) (t : Fin cfg0.N) (d) : (dats m 0 c).before 32 t d = iblk m c 32 t :=
  ((dats m 0 c).before_in_eq_fetched 32 rfl (fun _ => rfl) (fun _ _ _ => rfl) (fun t => by rw [after_32]; unfold Dat.blockOf iblk; rw [A_eq]; try rfl) t d).trans
    (by unfold Dat.fetched Dat.blockOf iblk; rw [A_eq]; try rfl)
theorem after_33 (c : Dev nD) (t : Fin cfg0.N) : (dats m 0 c).after 33 t = iblk m c 33 t := by dsimp only [dats]
theorem before_33 (c : Dev nD) (t : Fin cfg0.N) (d) : (dats m 0 c).before 33 t d = iblk m c 33 t :=
  ((dats m 0 c).before_in_eq_fetched 33 rfl (fun _ => rfl) (fun _ _ _ => rfl) (fun t => by rw [after_33]; unfold Dat.blockOf iblk; rw [A_eq]; try rfl) t d).trans
    (by unfold Dat.fetched Dat.blockOf iblk; rw [A_eq]; try rfl)

end Data
end Cert.KernelIdeal.Hand
end
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Body
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S128x256 .f32) (harg10 : arg10.IsWhole)
  (arg11 : Memref sig .tc .vmem S1x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S64x128 .f32) (harg14 : arg14.IsWhole)
  (arg15 : Memref sig .tc .vmem S1x64 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S256x1024 .f32) (harg18 : arg18.IsWhole)
  (arg19 : Memref sig .tc .vmem S256x1024 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S128x256 .f32) (harg23 : arg23.IsWhole)
  (arg24 : Memref sig .tc .vmem S1x128 .f32) (harg24 : arg24.IsWhole)
  (arg25 : Memref sig .tc .vmem S1x128 .f32) (harg25 : arg25.IsWhole)
  (arg26 : Memref sig .tc .vmem S1x128 .f32) (harg26 : arg26.IsWhole)
  (arg27 : Memref sig .tc .vmem S64x128 .f32) (harg27 : arg27.IsWhole)
  (arg28 : Memref sig .tc .vmem S1x64 .f32) (harg28 : arg28.IsWhole)
  (arg29 : Memref sig .tc .vmem S1x64 .f32) (harg29 : arg29.IsWhole)
  (arg30 : Memref sig .tc .vmem S1x64 .f32) (harg30 : arg30.IsWhole)
  (arg34 : Memref sig .tc .vmem S2x256x64 .f32) (harg34 : arg34.IsWhole)
  (arg35 : Memref sig .tc .vmem S2x256x64 .f32) (harg35 : arg35.IsWhole)
  (arg36 : Memref sig .tc .smem S1x1 .f32) (harg36 : arg36.IsWhole)
  (arg37 : Memref sig .tc .smem S2 .f32) (harg37 : arg37.IsWhole)
  (arg38 : Memref sig .tc .vmem S1x128 .f32) (harg38 : arg38.IsWhole)
  (arg39 : Memref sig .tc .vmem S2048x256 .f32) (harg39 : arg39.IsWhole)
  (arg40 : Memref sig .tc .vmem S2048x64 .f32) (harg40 : arg40.IsWhole)
  (arg41 : Memref sig .tc .vmem S2048x64 .f32) (harg41 : arg41.IsWhole)
  (arg45 : Memref sig .tc .smem S2 .f32) (harg45 : arg45.IsWhole)

/-- The body's run at a point of the first encoder, its last row block not yet reached: what it holds before and after, at values. -/
theorem runA (h1 : k0_cond1 i = 1#1) (h2 : ¬ c2 i = 1#1) (h3 : ¬ k0_cond3 i = 1#1) (h4 : ¬ c4 i = 1#1) (h5 : ¬ k0_cond5 i = 1#1) (h6 : ¬ c6 i = 1#1) (h8 : ¬ k0_cond8 i = 1#1)
    (x1 : Vec F S512x1024 .f32) (x5 : Vec F S256x1024 .f32) (x2 : Vec F S512x1024 .f32) (x6 : Vec F S256x1024 .f32) (x7 : Vec F S1x256 .f32) (x39 : Vec F S2048x256 .f32)   (Q : PUnit → sProp 𝕄) :
    (iprop(((arg1.view.loc (c : Thread nD τ) ↦[arg1.view.set]{fullShare} arg1.view.rep x1) ∗ (arg5.view.loc (c : Thread nD τ) ↦[arg5.view.set]{fullShare} arg5.view.rep x5) ∗ (arg2.view.loc (c : Thread nD τ) ↦[arg2.view.set]{fullShare} arg2.view.rep x2) ∗ (arg6.view.loc (c : Thread nD τ) ↦[arg6.view.set]{fullShare} arg6.view.rep x6) ∗ (arg7.view.loc (c : Thread nD τ) ↦[arg7.view.set]{fullShare} arg7.view.rep x7) ∗ (arg39.view.loc (c : Thread nD τ) ↦[arg39.view.set]{fullShare} arg39.view.rep x39))
     ∗ (((arg1.view.loc (c : Thread nD τ) ↦[arg1.view.set]{fullShare} arg1.view.rep x1) ∗ (arg5.view.loc (c : Thread nD τ) ↦[arg5.view.set]{fullShare} arg5.view.rep x5) ∗ (arg2.view.loc (c : Thread nD τ) ↦[arg2.view.set]{fullShare} arg2.view.rep x2) ∗ (arg6.view.loc (c : Thread nD τ) ↦[arg6.view.set]{fullShare} arg6.view.rep x6) ∗ (arg7.view.loc (c : Thread nD τ) ↦[arg7.view.set]{fullShare} arg7.view.rep x7) ∗ (arg39.view.loc (c : Thread nD τ) ↦[arg39.view.set]{fullShare} arg39.view.rep (VecWindow.put x39 (k0_off1 i) ![512, 256] (k0_pay1 x1 x5 x2 x6 x7)))) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  iintro ⟨⟨H1, H5, H2, H6, H7, H39⟩, K⟩
  dsimp only [bodyG]
  sl_unfold [cc0__fused_kernel]
  sl_open_parts
  sl_exec (disch := first | assumption | sl_exact h2 | sl_exact h4 | sl_exact h6)
  sl_step
  have r1 : arg1.view.readAt (Elt F) (Rect.unit (s := S512x1024) ![0, 0] S512x1024.size (by decide)).toLoadRect (arg1.view.rep x1) = x1 := View.readAt_rep_full arg1.view x1 _
  have r5 : arg5.view.readAt (Elt F) (Rect.unit (s := S256x1024) ![0, 0] S256x1024.size (by decide)).toLoadRect (arg5.view.rep x5) = x5 := View.readAt_rep_full arg5.view x5 _
  have r2 : arg2.view.readAt (Elt F) (Rect.unit (s := S512x1024) ![0, 0] S512x1024.size (by decide)).toLoadRect (arg2.view.rep x2) = x2 := View.readAt_rep_full arg2.view x2 _
  have r6 : arg6.view.readAt (Elt F) (Rect.unit (s := S256x1024) ![0, 0] S256x1024.size (by decide)).toLoadRect (arg6.view.rep x6) = x6 := View.readAt_rep_full arg6.view x6 _
  have r7 : arg7.view.readAt (Elt F) (Rect.unit (s := S1x256) ![0, 0] S1x256.size (by decide)).toLoadRect (arg7.view.rep x7) = x7 := View.readAt_rep_full arg7.view x7 _
  iapply K
  isplitl [H1]; · iexact H1
  isplitl [H5]; · iexact H5
  isplitl [H2]; · iexact H2
  isplitl [H6]; · iexact H6
  isplitl [H7]; · iexact H7
  · iapply (rep_of_read c arg39 _ _ ?_)
    rotate_left
    · iexact H39
    · refine (View.read_writes_rep_unit arg39.view x39 _ _ rfl).trans ?_
      rw [r1, r5, r2, r6, r7]

/-- The body's run at a point of the first encoder's last row block: what it holds before and after, at values. -/
theorem runB (h1 : k0_cond1 i = 1#1) (h2 : c2 i = 1#1) (h3 : ¬ k0_cond3 i = 1#1) (h4 : ¬ c4 i = 1#1) (h5 : ¬ k0_cond5 i = 1#1) (h6 : ¬ c6 i = 1#1) (h8 : ¬ k0_cond8 i = 1#1)
    (x1 : Vec F S512x1024 .f32) (x5 : Vec F S256x1024 .f32) (x2 : Vec F S512x1024 .f32) (x6 : Vec F S256x1024 .f32) (x7 : Vec F S1x256 .f32) (x8 : Vec F S1x256 .f32) (x9 : Vec F S1x256 .f32) (x10 : Vec F S128x256 .f32) (x11 : Vec F S1x128 .f32) (x12 : Vec F S1x128 .f32) (x13 : Vec F S1x128 .f32) (x14 : Vec F S64x128 .f32) (x15 : Vec F S1x64 .f32) (x16 : Vec F S1x64 .f32) (x17 : Vec F S1x64 .f32) (x39 : Vec F S2048x256 .f32) (x40 : Vec F S2048x64 .f32)   (Q : PUnit → sProp 𝕄) :
    (iprop(((arg1.view.loc (c : Thread nD τ) ↦[arg1.view.set]{fullShare} arg1.view.rep x1) ∗ (arg5.view.loc (c : Thread nD τ) ↦[arg5.view.set]{fullShare} arg5.view.rep x5) ∗ (arg2.view.loc (c : Thread nD τ) ↦[arg2.view.set]{fullShare} arg2.view.rep x2) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg39.view.loc (c : Thread nD τ) ↦[arg39.view.set]{fullShare} arg39.view.rep x39) ∗ (arg40.view.loc (c : Thread nD τ) ↦[arg40.view.set]{fullShare} arg40.view.rep x40))
     ∗ (((arg1.view.loc (c : Thread nD τ) ↦[arg1.view.set]{fullShare} arg1.view.rep x1) ∗ (arg5.view.loc (c : Thread nD τ) ↦[arg5.view.set]{fullShare} arg5.view.rep x5) ∗ (arg2.view.loc (c : Thread nD τ) ↦[arg2.view.set]{fullShare} arg2.view.rep x2) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg39.view.loc (c : Thread nD τ) ↦[arg39.view.set]{fullShare} arg39.view.rep (VecWindow.put x39 (k0_off1 i) ![512, 256] (k0_pay1 x1 x5 x2 x6 x7))) ∗ (arg40.view.loc (c : Thread nD τ) ↦[arg40.view.set]{fullShare} arg40.view.rep (enc1 (VecWindow.put x39 (k0_off1 i) ![512, 256] (k0_pay1 x1 x5 x2 x6 x7)) x8 x9 x10 x11 x12 x13 x14 x15 x16 x17))) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  iintro ⟨⟨H1, H5, H2, H6, H7, H8, H9, H10, H11, H12, H13, H14, H15, H16, H17, H39, H40⟩, K⟩
  dsimp only [bodyG]
  sl_unfold [cc0__fused_kernel]
  sl_open_parts
  sl_exec (disch := first | assumption | sl_exact h2 | sl_exact h4 | sl_exact h6)
  sl_step
  have r1 : arg1.view.readAt (Elt F) (Rect.unit (s := S512x1024) ![0, 0] S512x1024.size (by decide)).toLoadRect (arg1.view.rep x1) = x1 := View.readAt_rep_full arg1.view x1 _
  have r5 : arg5.view.readAt (Elt F) (Rect.unit (s := S256x1024) ![0, 0] S256x1024.size (by decide)).toLoadRect (arg5.view.rep x5) = x5 := View.readAt_rep_full arg5.view x5 _
  have r2 : arg2.view.readAt (Elt F) (Rect.unit (s := S512x1024) ![0, 0] S512x1024.size (by decide)).toLoadRect (arg2.view.rep x2) = x2 := View.readAt_rep_full arg2.view x2 _
  have r6 : arg6.view.readAt (Elt F) (Rect.unit (s := S256x1024) ![0, 0] S256x1024.size (by decide)).toLoadRect (arg6.view.rep x6) = x6 := View.readAt_rep_full arg6.view x6 _
  have r7 : arg7.view.readAt (Elt F) (Rect.unit (s := S1x256) ![0, 0] S1x256.size (by decide)).toLoadRect (arg7.view.rep x7) = x7 := View.readAt_rep_full arg7.view x7 _
  have r8 : arg8.view.readAt (Elt F) (Rect.unit (s := S1x256) ![0, 0] S1x256.size (by decide)).toLoadRect (arg8.view.rep x8) = x8 := View.readAt_rep_full arg8.view x8 _
  have r9 : arg9.view.readAt (Elt F) (Rect.unit (s := S1x256) ![0, 0] S1x256.size (by decide)).toLoadRect (arg9.view.rep x9) = x9 := View.readAt_rep_full arg9.view x9 _
  have r10 : arg10.view.readAt (Elt F) (Rect.unit (s := S128x256) ![0, 0] S128x256.size (by decide)).toLoadRect (arg10.view.rep x10) = x10 := View.readAt_rep_full arg10.view x10 _
  have r11 : arg11.view.readAt (Elt F) (Rect.unit (s := S1x128) ![0, 0] S1x128.size (by decide)).toLoadRect (arg11.view.rep x11) = x11 := View.readAt_rep_full arg11.view x11 _
  have r12 : arg12.view.readAt (Elt F) (Rect.unit (s := S1x128) ![0, 0] S1x128.size (by decide)).toLoadRect (arg12.view.rep x12) = x12 := View.readAt_rep_full arg12.view x12 _
  have r13 : arg13.view.readAt (Elt F) (Rect.unit (s := S1x128) ![0, 0] S1x128.size (by decide)).toLoadRect (arg13.view.rep x13) = x13 := View.readAt_rep_full arg13.view x13 _
  have r14 : arg14.view.readAt (Elt F) (Rect.unit (s := S64x128) ![0, 0] S64x128.size (by decide)).toLoadRect (arg14.view.rep x14) = x14 := View.readAt_rep_full arg14.view x14 _
  have r15 : arg15.view.readAt (Elt F) (Rect.unit (s := S1x64) ![0, 0] S1x64.size (by decide)).toLoadRect (arg15.view.rep x15) = x15 := View.readAt_rep_full arg15.view x15 _
  have r16 : arg16.view.readAt (Elt F) (Rect.unit (s := S1x64) ![0, 0] S1x64.size (by decide)).toLoadRect (arg16.view.rep x16) = x16 := View.readAt_rep_full arg16.view x16 _
  have r17 : arg17.view.readAt (Elt F) (Rect.unit (s := S1x64) ![0, 0] S1x64.size (by decide)).toLoadRect (arg17.view.rep x17) = x17 := View.readAt_rep_full arg17.view x17 _
  have e39 : arg39.view.read (Elt F) (arg39.view.writes (Elt F) (arg39.view.rep x39) (runB.sl.H39_1 i arg1 arg2 arg5 arg6 arg7 h1 x1 x5 x2 x6 x7)) = (VecWindow.put x39 (k0_off1 i) ![512, 256] (k0_pay1 x1 x5 x2 x6 x7)) := by
    refine (View.read_writes_rep_unit arg39.view x39 _ _ rfl).trans ?_
    rw [r1, r5, r2, r6, r7]
  have r39 : arg39.view.readAt (Elt F) (Rect.unit (s := S2048x256) ![0, 0] S2048x256.size (by decide)).toLoadRect (arg39.view.writes (Elt F) (arg39.view.rep x39) (runB.sl.H39_1 i arg1 arg2 arg5 arg6 arg7 h1 x1 x5 x2 x6 x7)) = (VecWindow.put x39 (k0_off1 i) ![512, 256] (k0_pay1 x1 x5 x2 x6 x7)) := (View.readAt_full arg39.view _ _).trans e39
  iapply K
  isplitl [H1]; · iexact H1
  isplitl [H5]; · iexact H5
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H39]
  · iapply (rep_of_read c arg39 _ _ ?_)
    rotate_left
    · iexact H39
    · exact e39
  · iapply (rep_of_read c arg40 _ _ ?_)
    rotate_left
    · iexact H40
    · refine (View.read_writes_full arg40.view _ _ _ _).trans ?_
      rw [r39, r8, r9, r10, r11, r12, r13, r14, r15, r16, r17]
      rfl

/-- The body's run at a point of the second encoder, its last row block not yet reached: what it holds before and after, at values. -/
theorem runC (h1 : ¬ k0_cond1 i = 1#1) (h2 : ¬ c2 i = 1#1) (h3 : k0_cond3 i = 1#1) (h4 : ¬ c4 i = 1#1) (h5 : ¬ k0_cond5 i = 1#1) (h6 : ¬ c6 i = 1#1) (h8 : ¬ k0_cond8 i = 1#1)
    (x3 : Vec F S512x1024 .f32) (x18 : Vec F S256x1024 .f32) (x4 : Vec F S512x1024 .f32) (x19 : Vec F S256x1024 .f32) (x20 : Vec F S1x256 .f32) (x39 : Vec F S2048x256 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg3.view.loc (c : Thread nD τ) ↦[arg3.view.set]{fullShare} arg3.view.rep x3) ∗ (arg18.view.loc (c : Thread nD τ) ↦[arg18.view.set]{fullShare} arg18.view.rep x18) ∗ (arg4.view.loc (c : Thread nD τ) ↦[arg4.view.set]{fullShare} arg4.view.rep x4) ∗ (arg19.view.loc (c : Thread nD τ) ↦[arg19.view.set]{fullShare} arg19.view.rep x19) ∗ (arg20.view.loc (c : Thread nD τ) ↦[arg20.view.set]{fullShare} arg20.view.rep x20) ∗ (arg39.view.loc (c : Thread nD τ) ↦[arg39.view.set]{fullShare} arg39.view.rep x39) ∗ slots c (sI i) ∗ homes c XA XB XC (blo (sI i)) ∗ owes (c : Thread nD τ) 0 W)
     ∗ (((arg3.view.loc (c : Thread nD τ) ↦[arg3.view.set]{fullShare} arg3.view.rep x3) ∗ (arg18.view.loc (c : Thread nD τ) ↦[arg18.view.set]{fullShare} arg18.view.rep x18) ∗ (arg4.view.loc (c : Thread nD τ) ↦[arg4.view.set]{fullShare} arg4.view.rep x4) ∗ (arg19.view.loc (c : Thread nD τ) ↦[arg19.view.set]{fullShare} arg19.view.rep x19) ∗ (arg20.view.loc (c : Thread nD τ) ↦[arg20.view.set]{fullShare} arg20.view.rep x20) ∗ (arg39.view.loc (c : Thread nD τ) ↦[arg39.view.set]{fullShare} arg39.view.rep (VecWindow.put x39 (k0_off2 i) ![512, 256] (k0_pay13 x3 x18 x4 x19 x20))) ∗ flies c XA XB XC (sI i) (blo (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h3
  iintro ⟨⟨H3, H18, H4, H19, H20, H39, ⟨⟨%fA, SA⟩, ⟨%fB, SB⟩, ⟨%fC, SC⟩, CA, CB, CC⟩, ⟨HA, HB, HC⟩, HW⟩, K⟩
  dsimp only [bodyG]
  sl_unfold [cc0__fused_kernel]
  sl_open_parts
  sl_exec (disch := first | assumption | sl_exact h2 | sl_exact h4 | sl_exact h6)
  sl_step
  have r3 : arg3.view.readAt (Elt F) (Rect.unit (s := S512x1024) ![0, 0] S512x1024.size (by decide)).toLoadRect (arg3.view.rep x3) = x3 := View.readAt_rep_full arg3.view x3 _
  have r18 : arg18.view.readAt (Elt F) (Rect.unit (s := S256x1024) ![0, 0] S256x1024.size (by decide)).toLoadRect (arg18.view.rep x18) = x18 := View.readAt_rep_full arg18.view x18 _
  have r4 : arg4.view.readAt (Elt F) (Rect.unit (s := S512x1024) ![0, 0] S512x1024.size (by decide)).toLoadRect (arg4.view.rep x4) = x4 := View.readAt_rep_full arg4.view x4 _
  have r19 : arg19.view.readAt (Elt F) (Rect.unit (s := S256x1024) ![0, 0] S256x1024.size (by decide)).toLoadRect (arg19.view.rep x19) = x19 := View.readAt_rep_full arg19.view x19 _
  have r20 : arg20.view.readAt (Elt F) (Rect.unit (s := S1x256) ![0, 0] S1x256.size (by decide)).toLoadRect (arg20.view.rep x20) = x20 := View.readAt_rep_full arg20.view x20 _
  iapply K
  isplitl [H3]; · iexact H3
  isplitl [H18]; · iexact H18
  isplitl [H4]; · iexact H4
  isplitl [H19]; · iexact H19
  isplitl [H20]; · iexact H20
  isplitl [H39]
  · iapply (rep_of_read c arg39 _ _ ?_)
    rotate_left
    · iexact H39
    · refine (View.read_writes_rep_unit arg39.view x39 _ _ rfl).trans ?_
      rw [r3, r18, r4, r19, r20]
  isplitr [HW]
  · isplitl [CA]
    · iapply (fly_firstA c XA (sI i) (blo (sI i)) fA _ rfl); iexact CA
    isplitl [CB]
    · iapply (fly_firstB c XB (sI i) (blo (sI i)) fB _ rfl); iexact CB
    iapply (fly_firstC c XC (sI i) (blo (sI i)) fC _ rfl); iexact CC
  iexists _; iexact HW

/-- The body's run at a point of the second encoder's last row block: what it holds before and after, at values. -/
theorem runD (h1 : ¬ k0_cond1 i = 1#1) (h2 : ¬ c2 i = 1#1) (h3 : k0_cond3 i = 1#1) (h4 : c4 i = 1#1) (h5 : ¬ k0_cond5 i = 1#1) (h6 : ¬ c6 i = 1#1) (h8 : ¬ k0_cond8 i = 1#1)
    (x3 : Vec F S512x1024 .f32) (x18 : Vec F S256x1024 .f32) (x4 : Vec F S512x1024 .f32) (x19 : Vec F S256x1024 .f32) (x20 : Vec F S1x256 .f32) (x21 : Vec F S1x256 .f32) (x22 : Vec F S1x256 .f32) (x23 : Vec F S128x256 .f32) (x24 : Vec F S1x128 .f32) (x25 : Vec F S1x128 .f32) (x26 : Vec F S1x128 .f32) (x27 : Vec F S64x128 .f32) (x28 : Vec F S1x64 .f32) (x29 : Vec F S1x64 .f32) (x30 : Vec F S1x64 .f32) (x39 : Vec F S2048x256 .f32) (x41 : Vec F S2048x64 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg3.view.loc (c : Thread nD τ) ↦[arg3.view.set]{fullShare} arg3.view.rep x3) ∗ (arg18.view.loc (c : Thread nD τ) ↦[arg18.view.set]{fullShare} arg18.view.rep x18) ∗ (arg4.view.loc (c : Thread nD τ) ↦[arg4.view.set]{fullShare} arg4.view.rep x4) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg39.view.loc (c : Thread nD τ) ↦[arg39.view.set]{fullShare} arg39.view.rep x39) ∗ (arg41.view.loc (c : Thread nD τ) ↦[arg41.view.set]{fullShare} arg41.view.rep x41) ∗ slots c (sI i) ∗ homes c XA XB XC (blo (sI i)) ∗ owes (c : Thread nD τ) 0 W)
     ∗ (((arg3.view.loc (c : Thread nD τ) ↦[arg3.view.set]{fullShare} arg3.view.rep x3) ∗ (arg18.view.loc (c : Thread nD τ) ↦[arg18.view.set]{fullShare} arg18.view.rep x18) ∗ (arg4.view.loc (c : Thread nD τ) ↦[arg4.view.set]{fullShare} arg4.view.rep x4) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg39.view.loc (c : Thread nD τ) ↦[arg39.view.set]{fullShare} arg39.view.rep (VecWindow.put x39 (k0_off2 i) ![512, 256] (k0_pay13 x3 x18 x4 x19 x20))) ∗ (arg41.view.loc (c : Thread nD τ) ↦[arg41.view.set]{fullShare} arg41.view.rep (enc2 (VecWindow.put x39 (k0_off2 i) ![512, 256] (k0_pay13 x3 x18 x4 x19 x20)) x21 x22 x23 x24 x25 x26 x27 x28 x29 x30)) ∗ flies c XA XB XC (sI i) (blo (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h3
  iintro ⟨⟨H3, H18, H4, H19, H20, H21, H22, H23, H24, H25, H26, H27, H28, H29, H30, H39, H41, ⟨⟨%fA, SA⟩, ⟨%fB, SB⟩, ⟨%fC, SC⟩, CA, CB, CC⟩, ⟨HA, HB, HC⟩, HW⟩, K⟩
  dsimp only [bodyG]
  sl_unfold [cc0__fused_kernel]
  sl_open_parts
  sl_exec (disch := first | assumption | sl_exact h2 | sl_exact h4 | sl_exact h6)
  sl_step
  have r3 : arg3.view.readAt (Elt F) (Rect.unit (s := S512x1024) ![0, 0] S512x1024.size (by decide)).toLoadRect (arg3.view.rep x3) = x3 := View.readAt_rep_full arg3.view x3 _
  have r18 : arg18.view.readAt (Elt F) (Rect.unit (s := S256x1024) ![0, 0] S256x1024.size (by decide)).toLoadRect (arg18.view.rep x18) = x18 := View.readAt_rep_full arg18.view x18 _
  have r4 : arg4.view.readAt (Elt F) (Rect.unit (s := S512x1024) ![0, 0] S512x1024.size (by decide)).toLoadRect (arg4.view.rep x4) = x4 := View.readAt_rep_full arg4.view x4 _
  have r19 : arg19.view.readAt (Elt F) (Rect.unit (s := S256x1024) ![0, 0] S256x1024.size (by decide)).toLoadRect (arg19.view.rep x19) = x19 := View.readAt_rep_full arg19.view x19 _
  have r20 : arg20.view.readAt (Elt F) (Rect.unit (s := S1x256) ![0, 0] S1x256.size (by decide)).toLoadRect (arg20.view.rep x20) = x20 := View.readAt_rep_full arg20.view x20 _
  have r21 : arg21.view.readAt (Elt F) (Rect.unit (s := S1x256) ![0, 0] S1x256.size (by decide)).toLoadRect (arg21.view.rep x21) = x21 := View.readAt_rep_full arg21.view x21 _
  have r22 : arg22.view.readAt (Elt F) (Rect.unit (s := S1x256) ![0, 0] S1x256.size (by decide)).toLoadRect (arg22.view.rep x22) = x22 := View.readAt_rep_full arg22.view x22 _
  have r23 : arg23.view.readAt (Elt F) (Rect.unit (s := S128x256) ![0, 0] S128x256.size (by decide)).toLoadRect (arg23.view.rep x23) = x23 := View.readAt_rep_full arg23.view x23 _
  have r24 : arg24.view.readAt (Elt F) (Rect.unit (s := S1x128) ![0, 0] S1x128.size (by decide)).toLoadRect (arg24.view.rep x24) = x24 := View.readAt_rep_full arg24.view x24 _
  have r25 : arg25.view.readAt (Elt F) (Rect.unit (s := S1x128) ![0, 0] S1x128.size (by decide)).toLoadRect (arg25.view.rep x25) = x25 := View.readAt_rep_full arg25.view x25 _
  have r26 : arg26.view.readAt (Elt F) (Rect.unit (s := S1x128) ![0, 0] S1x128.size (by decide)).toLoadRect (arg26.view.rep x26) = x26 := View.readAt_rep_full arg26.view x26 _
  have r27 : arg27.view.readAt (Elt F) (Rect.unit (s := S64x128) ![0, 0] S64x128.size (by decide)).toLoadRect (arg27.view.rep x27) = x27 := View.readAt_rep_full arg27.view x27 _
  have r28 : arg28.view.readAt (Elt F) (Rect.unit (s := S1x64) ![0, 0] S1x64.size (by decide)).toLoadRect (arg28.view.rep x28) = x28 := View.readAt_rep_full arg28.view x28 _
  have r29 : arg29.view.readAt (Elt F) (Rect.unit (s := S1x64) ![0, 0] S1x64.size (by decide)).toLoadRect (arg29.view.rep x29) = x29 := View.readAt_rep_full arg29.view x29 _
  have r30 : arg30.view.readAt (Elt F) (Rect.unit (s := S1x64) ![0, 0] S1x64.size (by decide)).toLoadRect (arg30.view.rep x30) = x30 := View.readAt_rep_full arg30.view x30 _
  have e39 : arg39.view.read (Elt F) (arg39.view.writes (Elt F) (arg39.view.rep x39) (runD.sl.H39_1 i arg3 arg4 arg18 arg19 arg20 h3 x3 x18 x4 x19 x20)) = (VecWindow.put x39 (k0_off2 i) ![512, 256] (k0_pay13 x3 x18 x4 x19 x20)) := by
    refine (View.read_writes_rep_unit arg39.view x39 _ _ rfl).trans ?_
    rw [r3, r18, r4, r19, r20]
  have r39 : arg39.view.readAt (Elt F) (Rect.unit (s := S2048x256) ![0, 0] S2048x256.size (by decide)).toLoadRect (arg39.view.writes (Elt F) (arg39.view.rep x39) (runD.sl.H39_1 i arg3 arg4 arg18 arg19 arg20 h3 x3 x18 x4 x19 x20)) = (VecWindow.put x39 (k0_off2 i) ![512, 256] (k0_pay13 x3 x18 x4 x19 x20)) := (View.readAt_full arg39.view _ _).trans e39
  iapply K
  isplitl [H3]; · iexact H3
  isplitl [H18]; · iexact H18
  isplitl [H4]; · iexact H4
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H39]
  · iapply (rep_of_read c arg39 _ _ ?_)
    rotate_left
    · iexact H39
    · exact e39
  isplitl [H41]
  · iapply (rep_of_read c arg41 _ _ ?_)
    rotate_left
    · iexact H41
    · refine (View.read_writes_full arg41.view _ _ _ _).trans ?_
      rw [r39, r21, r22, r23, r24, r25, r26, r27, r28, r29, r30]
      rfl
  isplitr [HW]
  · isplitl [CA]
    · iapply (fly_firstA c XA (sI i) (blo (sI i)) fA _ rfl); iexact CA
    isplitl [CB]
    · iapply (fly_firstB c XB (sI i) (blo (sI i)) fB _ rfl); iexact CB
    iapply (fly_firstC c XC (sI i) (blo (sI i)) fC _ rfl); iexact CC
  iexists _; iexact HW

/-- The body's run at a point of the first attention step: what it holds before and after, at values. -/
theorem runE (h1 : ¬ k0_cond1 i = 1#1) (h2 : ¬ c2 i = 1#1) (h3 : ¬ k0_cond3 i = 1#1) (h4 : ¬ c4 i = 1#1) (h5 : k0_cond5 i = 1#1) (h6 : c6 i = 1#1) (h7 : k0_cond7 i = 1#1) (h8 : ¬ k0_cond8 i = 1#1)
    (x34 : Vec F S2x256x64 .f32) (x35 : Vec F S2x256x64 .f32) (x36 : Vec F S1x1 .f32) (x40 : Vec F S2048x64 .f32) (x41 : Vec F S2048x64 .f32) (x45 : Vec F S2 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep x45) ∗ flies c XA XB XC (sI i) (blo (sI i)) ∗ homes c XA XB XC (bhi (sI i)) ∗ owes (c : Thread nD τ) 0 W)
     ∗ (((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep (pair (attn0 (x36 i11) (blkA c XA (blo (sI i))) (blkB c XB (blo (sI i))) (blkC c XC (blo (sI i))) x40 (VecWindow.window x40 (k0_off14 i) ![256, 64] (k0_off14_inb i h5)) x34 x41 (VecWindow.window x41 (k0_off14 i) ![256, 64] (k0_off14_inb i h5)) x35 (FloatOps.ofBits FTy.f32 0#32)) (attn1 (x36 i11) (blkA c XA (blo (sI i))) (blkB c XB (blo (sI i))) (blkC c XC (blo (sI i))) x40 (VecWindow.window x40 (k0_off14 i) ![256, 64] (k0_off14_inb i h5)) x34 x41 (VecWindow.window x41 (k0_off14 i) ![256, 64] (k0_off14_inb i h5)) x35 (FloatOps.ofBits FTy.f32 0#32)))) ∗ flies c XA XB XC (sI i) (bhi (sI i)) ∗ homes c XA XB XC (blo (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h5
  iintro ⟨⟨H34, H35, H36, H40, H41, H45, ⟨⟨%fA, FA⟩, ⟨%fB, FB⟩, %fC, FC⟩, ⟨HA, HB, HC⟩, HW⟩, K⟩
  dsimp only [bodyG]
  sl_unfold [cc0__fused_kernel]
  sl_open_parts
  sl_exec (disch := first | assumption | sl_exact h2 | sl_exact h4 | sl_exact h6)
  sl_step
  have r34 : arg34.view.readAt (Elt F) (Rect.unit (s := S2x256x64) ![0, 0, 0] S2x256x64.size (by decide)).toLoadRect (arg34.view.rep x34) = x34 := View.readAt_rep_full arg34.view x34 _
  have r35 : arg35.view.readAt (Elt F) (Rect.unit (s := S2x256x64) ![0, 0, 0] S2x256x64.size (by decide)).toLoadRect (arg35.view.rep x35) = x35 := View.readAt_rep_full arg35.view x35 _
  have r40 : arg40.view.readAt (Elt F) (Rect.unit (s := S2048x64) ![0, 0] S2048x64.size (by decide)).toLoadRect (arg40.view.rep x40) = x40 := View.readAt_rep_full arg40.view x40 _
  have r41 : arg41.view.readAt (Elt F) (Rect.unit (s := S2048x64) ![0, 0] S2048x64.size (by decide)).toLoadRect (arg41.view.rep x41) = x41 := View.readAt_rep_full arg41.view x41 _
  have eA : runE.sl.v40 c i h5 XA = lift (blkA c XA (blo (sI i))) := read_slotA c XA (sI i) (blo (sI i)) _ (off13_eq i h5) _
  have eB : runE.sl.v79 c i h5 XB = lift (blkB c XB (blo (sI i))) := read_slotB c XB (sI i) (blo (sI i)) _ (off13_eq i h5) _
  have eC : runE.sl.v49 c i h5 XC = lift (blkC c XC (blo (sI i))) := read_slotC c XC (sI i) (blo (sI i)) _ (off13_eq i h5) _
  have eW : runE.sl.r arg36 x36 = x36 i11 := (readAt_one arg36 _ _ _).trans (by rw [View.read_rep])
  have e40 := View.readAt_rep_unit (Val := Elt F) arg40.view x40 (off := k0_off14 i) (size := S256x64.size) (k0_off14_inb i h5) rfl (k0_off14_inb i h5)
  have e41 := View.readAt_rep_unit (Val := Elt F) arg41.view x41 (off := k0_off14 i) (size := S256x64.size) (k0_off14_inb i h5) rfl (k0_off14_inb i h5)
  iapply K
  isplitl [H34]; · iexact H34
  isplitl [H35]; · iexact H35
  isplitl [H36]; · iexact H36
  isplitl [H40]; · iexact H40
  isplitl [H41]; · iexact H41
  isplitl [H45]
  · iapply (rep_of_read c arg45 _ _ ?_)
    rotate_left
    · iexact H45
    · refine (read_pair arg45 _ _ _ _ _ _).trans ?_
      rw [eA, eB, eC, eW, e40, e41, r34, r35, r40, r41]
      rfl
  isplitl [FA FB FC]
  · isplitl [FA]
    · iapply (fly_againA c XA (sI i) (bhi (sI i)) _ _ _ rfl); iexact FA
    isplitl [FB]
    · iapply (fly_againB c XB (sI i) (bhi (sI i)) _ _ _ rfl); iexact FB
    iapply (fly_againC c XC (sI i) (bhi (sI i)) _ _ _ rfl); iexact FC
  isplitr [HW]
  · isplitl [FA_src]; · iexact FA_src
    isplitl [FB_src]; · iexact FB_src
    iexact FC_src
  iexists _; iexact HW

/-- The body's run at a point of the attention steps up to the fourth: what it holds before and after, at values. -/
theorem runF (h1 : ¬ k0_cond1 i = 1#1) (h2 : ¬ c2 i = 1#1) (h3 : ¬ k0_cond3 i = 1#1) (h4 : ¬ c4 i = 1#1) (h5 : k0_cond5 i = 1#1) (h6 : ¬ c6 i = 1#1) (h7 : k0_cond7 i = 1#1) (h8 : ¬ k0_cond8 i = 1#1)
    (x34 : Vec F S2x256x64 .f32) (x35 : Vec F S2x256x64 .f32) (x36 : Vec F S1x1 .f32) (x40 : Vec F S2048x64 .f32) (x41 : Vec F S2048x64 .f32) (x45 : Vec F S2 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep x45) ∗ flies c XA XB XC (sI i) (blo (sI i)) ∗ homes c XA XB XC (bhi (sI i)) ∗ owes (c : Thread nD τ) 0 W)
     ∗ (((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep (pair (attn0 (x36 i11) (blkA c XA (blo (sI i))) (blkB c XB (blo (sI i))) (blkC c XC (blo (sI i))) x40 (VecWindow.window x40 (k0_off14 i) ![256, 64] (k0_off14_inb i h5)) x34 x41 (VecWindow.window x41 (k0_off14 i) ![256, 64] (k0_off14_inb i h5)) x35 (x45 (i2 0))) (attn1 (x36 i11) (blkA c XA (blo (sI i))) (blkB c XB (blo (sI i))) (blkC c XC (blo (sI i))) x40 (VecWindow.window x40 (k0_off14 i) ![256, 64] (k0_off14_inb i h5)) x34 x41 (VecWindow.window x41 (k0_off14 i) ![256, 64] (k0_off14_inb i h5)) x35 (x45 (i2 1))))) ∗ flies c XA XB XC (sI i) (bhi (sI i)) ∗ homes c XA XB XC (blo (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h5
  iintro ⟨⟨H34, H35, H36, H40, H41, H45, ⟨⟨%fA, FA⟩, ⟨%fB, FB⟩, %fC, FC⟩, ⟨HA, HB, HC⟩, HW⟩, K⟩
  dsimp only [bodyG]
  sl_unfold [cc0__fused_kernel]
  sl_open_parts
  sl_exec (disch := first | assumption | sl_exact h2 | sl_exact h4 | sl_exact h6)
  sl_step
  have r34 : arg34.view.readAt (Elt F) (Rect.unit (s := S2x256x64) ![0, 0, 0] S2x256x64.size (by decide)).toLoadRect (arg34.view.rep x34) = x34 := View.readAt_rep_full arg34.view x34 _
  have r35 : arg35.view.readAt (Elt F) (Rect.unit (s := S2x256x64) ![0, 0, 0] S2x256x64.size (by decide)).toLoadRect (arg35.view.rep x35) = x35 := View.readAt_rep_full arg35.view x35 _
  have r40 : arg40.view.readAt (Elt F) (Rect.unit (s := S2048x64) ![0, 0] S2048x64.size (by decide)).toLoadRect (arg40.view.rep x40) = x40 := View.readAt_rep_full arg40.view x40 _
  have r41 : arg41.view.readAt (Elt F) (Rect.unit (s := S2048x64) ![0, 0] S2048x64.size (by decide)).toLoadRect (arg41.view.rep x41) = x41 := View.readAt_rep_full arg41.view x41 _
  have eA : runF.sl.v40 c i h5 XA = lift (blkA c XA (blo (sI i))) := read_slotA c XA (sI i) (blo (sI i)) _ (off13_eq i h5) _
  have eB : runF.sl.v79 c i h5 XB = lift (blkB c XB (blo (sI i))) := read_slotB c XB (sI i) (blo (sI i)) _ (off13_eq i h5) _
  have eC : runF.sl.v49 c i h5 XC = lift (blkC c XC (blo (sI i))) := read_slotC c XC (sI i) (blo (sI i)) _ (off13_eq i h5) _
  have eW : runF.sl.r arg36 x36 = x36 i11 := (readAt_one arg36 _ _ _).trans (by rw [View.read_rep])
  have e0 : runF.sl.r_1 arg45 x45 = x45 (i2 0) := (readAt_cell arg45 _ 0 rfl _ _).trans (by rw [View.read_rep])
  have e1 : runF.sl.r_2 arg45 x45 = x45 (i2 1) := (readAt_cell arg45 _ 1 rfl _ _).trans (by rw [View.read_rep])
  have e40 := View.readAt_rep_unit (Val := Elt F) arg40.view x40 (off := k0_off14 i) (size := S256x64.size) (k0_off14_inb i h5) rfl (k0_off14_inb i h5)
  have e41 := View.readAt_rep_unit (Val := Elt F) arg41.view x41 (off := k0_off14 i) (size := S256x64.size) (k0_off14_inb i h5) rfl (k0_off14_inb i h5)
  iapply K
  isplitl [H34]; · iexact H34
  isplitl [H35]; · iexact H35
  isplitl [H36]; · iexact H36
  isplitl [H40]; · iexact H40
  isplitl [H41]; · iexact H41
  isplitl [H45]
  · iapply (rep_of_read c arg45 _ _ ?_)
    rotate_left
    · iexact H45
    · refine (read_pair arg45 _ _ _ _ _ _).trans ?_
      rw [eA, eB, eC, eW, e0, e1, e40, e41, r34, r35, r40, r41]
      rfl
  isplitl [FA FB FC]
  · isplitl [FA]
    · iapply (fly_againA c XA (sI i) (bhi (sI i)) _ _ _ rfl); iexact FA
    isplitl [FB]
    · iapply (fly_againB c XB (sI i) (bhi (sI i)) _ _ _ rfl); iexact FB
    iapply (fly_againC c XC (sI i) (bhi (sI i)) _ _ _ rfl); iexact FC
  isplitr [HW]
  · isplitl [FA_src]; · iexact FA_src
    isplitl [FB_src]; · iexact FB_src
    iexact FC_src
  iexists _; iexact HW

/-- The body's run at a point of the attention steps after the fourth: what it holds before and after, at values. -/
theorem runG (h1 : ¬ k0_cond1 i = 1#1) (h2 : ¬ c2 i = 1#1) (h3 : ¬ k0_cond3 i = 1#1) (h4 : ¬ c4 i = 1#1) (h5 : k0_cond5 i = 1#1) (h6 : ¬ c6 i = 1#1) (h7 : ¬ k0_cond7 i = 1#1) (h8 : ¬ k0_cond8 i = 1#1)
    (x34 : Vec F S2x256x64 .f32) (x35 : Vec F S2x256x64 .f32) (x36 : Vec F S1x1 .f32) (x40 : Vec F S2048x64 .f32) (x41 : Vec F S2048x64 .f32) (x45 : Vec F S2 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep x45) ∗ flies c XA XB XC (sI i) (bhi (sI i)) ∗ owes (c : Thread nD τ) 0 W)
     ∗ (((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg45.view.loc (c : Thread nD τ) ↦[arg45.view.set]{fullShare} arg45.view.rep (pair (attn0 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 0))) (attn1 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 1))))) ∗ slots c (sI i) ∗ homes c XA XB XC (bhi (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h5
  iintro ⟨⟨H34, H35, H36, H40, H41, H45, ⟨⟨%fA, FA⟩, ⟨%fB, FB⟩, %fC, FC⟩, HW⟩, K⟩
  dsimp only [bodyG]
  sl_unfold [cc0__fused_kernel]
  sl_open_parts
  sl_exec (disch := first | assumption | sl_exact h2 | sl_exact h4 | sl_exact h6)
  sl_step
  have r34 : arg34.view.readAt (Elt F) (Rect.unit (s := S2x256x64) ![0, 0, 0] S2x256x64.size (by decide)).toLoadRect (arg34.view.rep x34) = x34 := View.readAt_rep_full arg34.view x34 _
  have r35 : arg35.view.readAt (Elt F) (Rect.unit (s := S2x256x64) ![0, 0, 0] S2x256x64.size (by decide)).toLoadRect (arg35.view.rep x35) = x35 := View.readAt_rep_full arg35.view x35 _
  have r40 : arg40.view.readAt (Elt F) (Rect.unit (s := S2048x64) ![0, 0] S2048x64.size (by decide)).toLoadRect (arg40.view.rep x40) = x40 := View.readAt_rep_full arg40.view x40 _
  have r41 : arg41.view.readAt (Elt F) (Rect.unit (s := S2048x64) ![0, 0] S2048x64.size (by decide)).toLoadRect (arg41.view.rep x41) = x41 := View.readAt_rep_full arg41.view x41 _
  have eA : runG.sl.v40 c i h5 XA = lift (blkA c XA (bhi (sI i))) := read_slotA c XA (sI i) (bhi (sI i)) _ (off13_eq i h5) _
  have eB : runG.sl.v79 c i h5 XB = lift (blkB c XB (bhi (sI i))) := read_slotB c XB (sI i) (bhi (sI i)) _ (off13_eq i h5) _
  have eC : runG.sl.v49 c i h5 XC = lift (blkC c XC (bhi (sI i))) := read_slotC c XC (sI i) (bhi (sI i)) _ (off13_eq i h5) _
  have eW : runG.sl.r arg36 x36 = x36 i11 := (readAt_one arg36 _ _ _).trans (by rw [View.read_rep])
  have e0 : runG.sl.r_1 arg45 x45 = x45 (i2 0) := (readAt_cell arg45 _ 0 rfl _ _).trans (by rw [View.read_rep])
  have e1 : runG.sl.r_2 arg45 x45 = x45 (i2 1) := (readAt_cell arg45 _ 1 rfl _ _).trans (by rw [View.read_rep])
  have e40 := View.readAt_rep_unit (Val := Elt F) arg40.view x40 (off := k0_off14 i) (size := S256x64.size) (k0_off14_inb i h5) rfl (k0_off14_inb i h5)
  have e41 := View.readAt_rep_unit (Val := Elt F) arg41.view x41 (off := k0_off14 i) (size := S256x64.size) (k0_off14_inb i h5) rfl (k0_off14_inb i h5)
  iapply K
  isplitl [H34]; · iexact H34
  isplitl [H35]; · iexact H35
  isplitl [H36]; · iexact H36
  isplitl [H40]; · iexact H40
  isplitl [H41]; · iexact H41
  isplitl [H45]
  · iapply (rep_of_read c arg45 _ _ ?_)
    rotate_left
    · iexact H45
    · refine (read_pair arg45 _ _ _ _ _ _).trans ?_
      rw [eA, eB, eC, eW, e0, e1, e40, e41, r34, r35, r40, r41]
      rfl
  isplitl [FA_dst FB_dst FC_dst FA FB FC]
  · isplitl [FA_dst]; · iexists _; iexact FA_dst
    isplitl [FB_dst]; · iexists _; iexact FB_dst
    isplitl [FC_dst]; · iexists _; iexact FC_dst
    isplitl [FA]; · iexact FA
    isplitl [FB]; · iexact FB
    iexact FC
  isplitr [HW]
  · isplitl [FA_src]; · iexact FA_src
    isplitl [FB_src]; · iexact FB_src
    iexact FC_src
  iexists _; iexact HW

/-- The body's run at a point of the last attention step: what it holds before and after, at values. -/
theorem runH (h1 : ¬ k0_cond1 i = 1#1) (h2 : ¬ c2 i = 1#1) (h3 : ¬ k0_cond3 i = 1#1) (h4 : ¬ c4 i = 1#1) (h5 : k0_cond5 i = 1#1) (h6 : ¬ c6 i = 1#1) (h7 : ¬ k0_cond7 i = 1#1) (h8 : k0_cond8 i = 1#1)
    (x34 : Vec F S2x256x64 .f32) (x35 : Vec F S2x256x64 .f32) (x36 : Vec F S1x1 .f32) (x40 : Vec F S2048x64 .f32) (x41 : Vec F S2048x64 .f32) (x37 : Vec F S2 .f32) (x45 : Vec F S2 .f32) (x38 : Vec F S1x128 .f32) (XA : Buf (Elt F) (arrA.view.loc (c : Thread nD τ))) (XB : Buf (Elt F) (arrB.view.loc (c : Thread nD τ))) (XC : Buf (Elt F) (arrC.view.loc (c : Thread nD τ))) (W) (Q : PUnit → sProp 𝕄) :
    (iprop(((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg37.view.loc (c : Thread nD τ) ↦[arg37.view.set]{fullShare} arg37.view.rep x37) ∗ (arg45.view.loc (c : Thread nD τ) ↦[arg45.view.set]{fullShare} arg45.view.rep x45) ∗ (arg38.view.loc (c : Thread nD τ) ↦[arg38.view.set]{fullShare} arg38.view.rep x38) ∗ flies c XA XB XC (sI i) (bhi (sI i)) ∗ owes (c : Thread nD τ) 0 W)
     ∗ (((arg34.view.loc (c : Thread nD τ) ↦[arg34.view.set]{fullShare} arg34.view.rep x34) ∗ (arg35.view.loc (c : Thread nD τ) ↦[arg35.view.set]{fullShare} arg35.view.rep x35) ∗ (arg36.view.loc (c : Thread nD τ) ↦[arg36.view.set]{fullShare} arg36.view.rep x36) ∗ (arg40.view.loc (c : Thread nD τ) ↦[arg40.view.set]{fullShare} arg40.view.rep x40) ∗ (arg41.view.loc (c : Thread nD τ) ↦[arg41.view.set]{fullShare} arg41.view.rep x41) ∗ (arg37.view.loc (c : Thread nD τ) ↦[arg37.view.set]{fullShare} arg37.view.rep x37) ∗ (arg45.view.loc (c : Thread nD τ) ↦[arg45.view.set]{fullShare} arg45.view.rep (pair (attn0 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 0))) (attn1 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 1))))) ∗ (arg38.view.loc (c : Thread nD τ) ↦[arg38.view.set]{fullShare} arg38.view.rep (k0_pay4 (attn0 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 0))) (x37 (i2 0)) (attn1 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 1))) (x37 (i2 1)))) ∗ slots c (sI i) ∗ homes c XA XB XC (bhi (sI i)) ∗ (∃ W', owes (c : Thread nD τ) 0 W')) -∗ Q PUnit.unit)) : sProp 𝕄)
    ⊢ wp frame (wpE (defs₀ (F := F)) 𝒱₀ (c : Thread nD τ) none) Set.univ (bodyG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg34 harg34 arg35 harg35 arg36 harg36 arg37 harg37 arg38 harg38 arg39 harg39 arg40 harg40 arg41 harg41 arg45 harg45) Q := by
  haveI := Fact.mk h5
  iintro ⟨⟨H34, H35, H36, H40, H41, H37, H45, H38, ⟨⟨%fA, FA⟩, ⟨%fB, FB⟩, %fC, FC⟩, HW⟩, K⟩
  dsimp only [bodyG]
  sl_unfold [cc0__fused_kernel]
  sl_open_parts
  sl_exec (disch := first | assumption | sl_exact h2 | sl_exact h4 | sl_exact h6)
  sl_step
  have r34 : arg34.view.readAt (Elt F) (Rect.unit (s := S2x256x64) ![0, 0, 0] S2x256x64.size (by decide)).toLoadRect (arg34.view.rep x34) = x34 := View.readAt_rep_full arg34.view x34 _
  have r35 : arg35.view.readAt (Elt F) (Rect.unit (s := S2x256x64) ![0, 0, 0] S2x256x64.size (by decide)).toLoadRect (arg35.view.rep x35) = x35 := View.readAt_rep_full arg35.view x35 _
  have r40 : arg40.view.readAt (Elt F) (Rect.unit (s := S2048x64) ![0, 0] S2048x64.size (by decide)).toLoadRect (arg40.view.rep x40) = x40 := View.readAt_rep_full arg40.view x40 _
  have r41 : arg41.view.readAt (Elt F) (Rect.unit (s := S2048x64) ![0, 0] S2048x64.size (by decide)).toLoadRect (arg41.view.rep x41) = x41 := View.readAt_rep_full arg41.view x41 _
  have eA : runH.sl.v40 c i h5 XA = lift (blkA c XA (bhi (sI i))) := read_slotA c XA (sI i) (bhi (sI i)) _ (off13_eq i h5) _
  have eB : runH.sl.v79 c i h5 XB = lift (blkB c XB (bhi (sI i))) := read_slotB c XB (sI i) (bhi (sI i)) _ (off13_eq i h5) _
  have eC : runH.sl.v49 c i h5 XC = lift (blkC c XC (bhi (sI i))) := read_slotC c XC (sI i) (bhi (sI i)) _ (off13_eq i h5) _
  have eW : runH.sl.r arg36 x36 = x36 i11 := (readAt_one arg36 _ _ _).trans (by rw [View.read_rep])
  have e0 : runH.sl.r_1 arg45 x45 = x45 (i2 0) := (readAt_cell arg45 _ 0 rfl _ _).trans (by rw [View.read_rep])
  have e1 : runH.sl.r_2 arg45 x45 = x45 (i2 1) := (readAt_cell arg45 _ 1 rfl _ _).trans (by rw [View.read_rep])
  have e40 := View.readAt_rep_unit (Val := Elt F) arg40.view x40 (off := k0_off14 i) (size := S256x64.size) (k0_off14_inb i h5) rfl (k0_off14_inb i h5)
  have e41 := View.readAt_rep_unit (Val := Elt F) arg41.view x41 (off := k0_off14 i) (size := S256x64.size) (k0_off14_inb i h5) rfl (k0_off14_inb i h5)
  have e3 : runH.sl.r_3 c i arg34 arg35 arg36 arg40 arg41 arg45 h5 x34 x35 x36 x40 x41 x45 XA XB XC = (attn0 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 0))) := by
    unfold runH.sl.r_3
    rw [eA, eB, eC, eW, e0, e40, e41, r34, r35, r40, r41]
    rfl
  have e5 : runH.sl.r_5 c i arg34 arg35 arg36 arg40 arg41 arg45 h5 x34 x35 x36 x40 x41 x45 XA XB XC = (attn1 (x36 i11) (blkA c XA (bhi (sI i))) (blkB c XB (bhi (sI i))) (blkC c XC (bhi (sI i))) x40 (VecWindow.window x40 (k0_off14 i) ![256, 64] (k0_off14_inb i h5)) x34 x41 (VecWindow.window x41 (k0_off14 i) ![256, 64] (k0_off14_inb i h5)) x35 (x45 (i2 1))) := by
    unfold runH.sl.r_5
    rw [eA, eB, eC, eW, e1, e40, e41, r34, r35, r40, r41]
    rfl
  have e4 : runH.sl.r_4 arg37 x37 = x37 (i2 0) := (readAt_cell arg37 _ 0 rfl _ _).trans (by rw [View.read_rep])
  have e6 : runH.sl.r_6 arg37 x37 = x37 (i2 1) := (readAt_cell arg37 _ 1 rfl _ _).trans (by rw [View.read_rep])
  iapply K
  isplitl [H34]; · iexact H34
  isplitl [H35]; · iexact H35
  isplitl [H36]; · iexact H36
  isplitl [H40]; · iexact H40
  isplitl [H41]; · iexact H41
  isplitl [H37]; · iexact H37
  isplitl [H45]
  · iapply (rep_of_read c arg45 _ _ ?_)
    rotate_left
    · iexact H45
    · refine (read_pair arg45 _ _ _ _ _ _).trans ?_
      rw [eA, eB, eC, eW, e0, e1, e40, e41, r34, r35, r40, r41]
      rfl
  isplitl [H38]
  · iapply (rep_of_read c arg38 _ _ ?_)
    rotate_left
    · iexact H38
    · refine (View.read_writes_full arg38.view _ _ _ _).trans ?_
      rw [e3, e4, e5, e6]
  isplitl [FA_dst FB_dst FC_dst FA FB FC]
  · isplitl [FA_dst]; · iexists _; iexact FA_dst
    isplitl [FB_dst]; · iexists _; iexact FB_dst
    isplitl [FC_dst]; · iexists _; iexact FC_dst
    isplitl [FA]; · iexact FA
    isplitl [FB]; · iexact FB
    iexact FC
  isplitr [HW]
  · isplitl [FA_src]; · iexact FA_src
    isplitl [FB_src]; · iexact FB_src
    iexact FC_src
  iexists _; iexact HW

end Body
end Cert.KernelIdeal.Hand
end
-- ==== Proof.KI.Steps1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Inv
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Steps
variable (m : (ℓ : Loc nD τ sig) → Buf (Elt F) ℓ) (c : Dev nD)
variable (t : Fin cfg0.N)

set_option maxHeartbeats 2000000 in
/-- The body at a point that computes a row block of the first encoder’s sums. -/
theorem stepA (ht : t.val < 3) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : k0_cond1 (grid0.coords t) = 1#1 := (C.1).mpr (by omega)
  have h2 : ¬ c2 (grid0.coords t) = 1#1 := fun h => absurd ((C.2.1).mp h) (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : ¬ k0_cond5 (grid0.coords t) = 1#1 := fun h => absurd ((C.2.2.2.2.1).mp h) (by omega)
  have h6 : ¬ c6 (grid0.coords t) = 1#1 := fun h => absurd ((C.2.2.2.2.2.1).mp h) (by omega)
  have h8 : ¬ k0_cond8 (grid0.coords t) = 1#1 := fun h => absurd ((C.2.2.2.2.2.2.2).mp h) (by omega)
  unfold Phi Owe Ins
  simp only [owns_eq_rep]
  rw [ring_early c (V m c main_arg2) (V m c main_arg3) (V m c main_arg29) t.val (by omega)]
  iintro ⟨⟨%x39, %x40, %x41, %x45, %hI, S39, S40, S41, S45, HR, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  iapply (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h8 (iblk m c 0 t) (iblk m c 4 t) (iblk m c 1 t) (iblk m c 5 t) (iblk m c 6 t) x39 _)
  isplitl [H0 H4 H1 H5 H6 S39]
  · isplitl [H0]; · iexact H0
    isplitl [H4]; · iexact H4
    isplitl [H1]; · iexact H1
    isplitl [H5]; · iexact H5
    isplitl [H6]; · iexact H6
    iexact S39
  iintro ⟨H0, H4, H1, H5, H6, S39⟩
  isplitl [S39 S40 S41 S45 HR Hg]
  · iexists (VecWindow.put x39 (k0_off1 (grid0.coords t)) ![512, 256] (sum1 m c t)), x40, x41, x45
    isplitr; · ipureintro; exact invA t hI ht
    isplitl [S39]; · iexact S39
    isplitl [S40]; · iexact S40
    isplitl [S41]; · iexact S41
    isplitl [S45]; · iexact S45
    isplitl [HR]; · iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

set_option maxHeartbeats 2000000 in
/-- The body at a point that computes the last one, and the first encoder. -/
theorem stepB (ht : t.val = 3) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : k0_cond1 (grid0.coords t) = 1#1 := (C.1).mpr (by omega)
  have h2 : c2 (grid0.coords t) = 1#1 := (C.2.1).mpr (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : ¬ k0_cond5 (grid0.coords t) = 1#1 := fun h => absurd ((C.2.2.2.2.1).mp h) (by omega)
  have h6 : ¬ c6 (grid0.coords t) = 1#1 := fun h => absurd ((C.2.2.2.2.2.1).mp h) (by omega)
  have h8 : ¬ k0_cond8 (grid0.coords t) = 1#1 := fun h => absurd ((C.2.2.2.2.2.2.2).mp h) (by omega)
  unfold Phi Owe Ins
  simp only [owns_eq_rep]
  rw [ring_early c (V m c main_arg2) (V m c main_arg3) (V m c main_arg29) t.val (by omega)]
  iintro ⟨⟨%x39, %x40, %x41, %x45, %hI, S39, S40, S41, S45, HR, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  iapply (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h8 (iblk m c 0 t) (iblk m c 4 t) (iblk m c 1 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x39 x40 _)
  isplitl [H0 H4 H1 H5 H6 H7 H8 H9 H10 H11 H12 H13 H14 H15 H16 S39 S40]
  · isplitl [H0]; · iexact H0
    isplitl [H4]; · iexact H4
    isplitl [H1]; · iexact H1
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [S39]; · iexact S39
    iexact S40
  iintro ⟨H0, H4, H1, H5, H6, H7, H8, H9, H10, H11, H12, H13, H14, H15, H16, S39, S40⟩
  have ef : VecWindow.put x39 (k0_off1 (grid0.coords t)) ![512, 256] (k0_pay1 (iblk m c 0 t) (iblk m c 4 t) (iblk m c 1 t) (iblk m c 5 t) (iblk m c 6 t)) = all1 m c := full1 t hI ht
  rw [ef]
  isplitl [S39 S40 S41 S45 HR Hg]
  · iexists (all1 m c), (out1 m c), x41, x45
    isplitr; · ipureintro; exact invB t hI ht
    obtain rfl : t = t0_3 := Fin.ext ht
    isplitl [S39]; · iexact S39
    isplitl [S40]; · iexact S40
    isplitl [S41]; · iexact S41
    isplitl [S45]; · iexact S45
    isplitl [HR]; · iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

set_option maxHeartbeats 2000000 in
/-- The body at a point that computes a row block of the second encoder’s sums, its slot’s transfers started. -/
theorem stepC (ht : 4 ≤ t.val ∧ t.val < 7) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : k0_cond3 (grid0.coords t) = 1#1 := (C.2.2.1).mpr (by omega)
  have h4 : ¬ c4 (grid0.coords t) = 1#1 := fun h => absurd ((C.2.2.2.1).mp h) (by omega)
  have h5 : ¬ k0_cond5 (grid0.coords t) = 1#1 := fun h => absurd ((C.2.2.2.2.1).mp h) (by omega)
  have h6 : ¬ c6 (grid0.coords t) = 1#1 := fun h => absurd ((C.2.2.2.2.2.1).mp h) (by omega)
  have h8 : ¬ k0_cond8 (grid0.coords t) = 1#1 := fun h => absurd ((C.2.2.2.2.2.2.2).mp h) (by omega)
  have hs : (sI (grid0.coords t)).val = t.val % 4 := by show (grid0.coords t 0).val % 4 = _; rw [hc]
  have e0 := slotSt_0 (F := F) c (V m c main_arg2) (V m c main_arg3) (V m c main_arg29) t.val (sI (grid0.coords t)) (by omega)
  have e1 := slotSt_1 (F := F) c (V m c main_arg2) (V m c main_arg3) (V m c main_arg29) (t.val + 1) (sI (grid0.coords t)) (by omega) (by omega)
  unfold Phi Owe Ins
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HS, HB0, HB1⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  iapply (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h8 (iblk m c 2 t) (iblk m c 17 t) (iblk m c 3 t) (iblk m c 18 t) (iblk m c 19 t) x39 (V m c main_arg2) (V m c main_arg3) (V m c main_arg29) W _)
  isplitl [H2 H17 H3 H18 H19 S39 HS HB0 HW]
  · isplitl [H2]; · iexact H2
    isplitl [H17]; · iexact H17
    isplitl [H3]; · iexact H3
    isplitl [H18]; · iexact H18
    isplitl [H19]; · iexact H19
    isplitl [S39]; · iexact S39
    isplitl [HS]; · iexact HS
    isplitl [HB0]; · iexact HB0
    iexact HW
  iintro ⟨H2, H17, H3, H18, H19, S39, HF, ⟨%W2, HW⟩⟩
  isplitl [S39 S40 S41 S45 HF HB1 HR Hg]
  · iexists (VecWindow.put x39 (k0_off2 (grid0.coords t)) ![512, 256] (sum2 m c t)), x40, x41, x45
    isplitr; · ipureintro; exact invC t hI ht.1 ht.2 h3
    isplitl [S39]; · iexact S39
    isplitl [S40]; · iexact S40
    isplitl [S41]; · iexact S41
    isplitl [S45]; · iexact S45
    isplitl [HF HB1 HR]
    · isplitl [HF HB1]
      · isplitl [HF]; · iexact HF
        iexact HB1
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

set_option maxHeartbeats 2000000 in
/-- The body at a point that computes the last one, and the second encoder. -/
theorem stepD (ht : t.val = 7) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : k0_cond3 (grid0.coords t) = 1#1 := (C.2.2.1).mpr (by omega)
  have h4 : c4 (grid0.coords t) = 1#1 := (C.2.2.2.1).mpr (by omega)
  have h5 : ¬ k0_cond5 (grid0.coords t) = 1#1 := fun h => absurd ((C.2.2.2.2.1).mp h) (by omega)
  have h6 : ¬ c6 (grid0.coords t) = 1#1 := fun h => absurd ((C.2.2.2.2.2.1).mp h) (by omega)
  have h8 : ¬ k0_cond8 (grid0.coords t) = 1#1 := fun h => absurd ((C.2.2.2.2.2.2.2).mp h) (by omega)
  have hs : (sI (grid0.coords t)).val = t.val % 4 := by show (grid0.coords t 0).val % 4 = _; rw [hc]
  have e0 := slotSt_0 (F := F) c (V m c main_arg2) (V m c main_arg3) (V m c main_arg29) t.val (sI (grid0.coords t)) (by omega)
  have e1 := slotSt_1 (F := F) c (V m c main_arg2) (V m c main_arg3) (V m c main_arg29) (t.val + 1) (sI (grid0.coords t)) (by omega) (by omega)
  unfold Phi Owe Ins
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HS, HB0, HB1⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  iapply (runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h8 (iblk m c 2 t) (iblk m c 17 t) (iblk m c 3 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) x39 x41 (V m c main_arg2) (V m c main_arg3) (V m c main_arg29) W _)
  isplitl [H2 H17 H3 H18 H19 H20 H21 H22 H23 H24 H25 H26 H27 H28 H29 S39 S41 HS HB0 HW]
  · isplitl [H2]; · iexact H2
    isplitl [H17]; · iexact H17
    isplitl [H3]; · iexact H3
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [S39]; · iexact S39
    isplitl [S41]; · iexact S41
    isplitl [HS]; · iexact HS
    isplitl [HB0]; · iexact HB0
    iexact HW
  iintro ⟨H2, H17, H3, H18, H19, H20, H21, H22, H23, H24, H25, H26, H27, H28, H29, S39, S41, HF, ⟨%W2, HW⟩⟩
  have ef : VecWindow.put x39 (k0_off2 (grid0.coords t)) ![512, 256] (k0_pay13 (iblk m c 2 t) (iblk m c 17 t) (iblk m c 3 t) (iblk m c 18 t) (iblk m c 19 t)) = all2 m c := full2 t hI ht h3
  rw [ef]
  isplitl [S39 S40 S41 S45 HF HB1 HR Hg]
  · iexists (all2 m c), x40, (out2 m c), x45
    isplitr; · ipureintro; exact invD t hI ht
    obtain rfl : t = t0_7 := Fin.ext ht
    isplitl [S39]; · iexact S39
    isplitl [S40]; · iexact S40
    isplitl [S41]; · iexact S41
    isplitl [S45]; · iexact S45
    isplitl [HF HB1 HR]
    · isplitl [HF HB1]
      · isplitl [HF]; · iexact HF
        iexact HB1
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

end Steps
end Cert.KernelIdeal.Hand
end
-- ==== Proof.KI.Steps2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Inv
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Steps
variable (m : (ℓ : Loc nD τ sig) → Buf (Elt F) ℓ) (c : Dev nD)
variable (t : Fin cfg0.N)

set_option maxHeartbeats 2000000 in
/-- The body at a point that computes the first attention step. -/
theorem stepE (ht : t.val = 8) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : k0_cond5 (grid0.coords t) = 1#1 := (C.2.2.2.2.1).mpr (by omega)
  have h6 : c6 (grid0.coords t) = 1#1 := (C.2.2.2.2.2.1).mpr (by omega)
  have h7 : k0_cond7 (grid0.coords t) = 1#1 := (C.2.2.2.2.2.2.1).mpr (by omega)
  have h8 : ¬ k0_cond8 (grid0.coords t) = 1#1 := fun h => absurd ((C.2.2.2.2.2.2.2).mp h) (by omega)
  have hs : (sI (grid0.coords t)).val = t.val % 4 := by show (grid0.coords t 0).val % 4 = _; rw [hc]
  have e0 := slotSt_1 (F := F) c (V m c main_arg2) (V m c main_arg3) (V m c main_arg29) t.val (sI (grid0.coords t)) (by omega) (by omega)
  have e1 := slotSt_2 (F := F) c (V m c main_arg2) (V m c main_arg3) (V m c main_arg29) (t.val + 1) (sI (grid0.coords t)) (by omega) (by omega)
  unfold Phi Owe Ins
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HF, HB1⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  obtain rfl := hI.e1 (by omega)
  obtain rfl := hI.e2 (by omega)
  iapply (runE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h7 h8 (iblk m c 30 t) (iblk m c 31 t) (iblk m c 32 t) (out1 m c) (out2 m c) x45 (V m c main_arg2) (V m c main_arg3) (V m c main_arg29) W _)
  isplitl [H30 H31 H32 S40 S41 S45 HF HB1 HW]
  · isplitl [H30]; · iexact H30
    isplitl [H31]; · iexact H31
    isplitl [H32]; · iexact H32
    isplitl [S40]; · iexact S40
    isplitl [S41]; · iexact S41
    isplitl [S45]; · iexact S45
    isplitl [HF]; · iexact HF
    isplitl [HB1]; · iexact HB1
    iexact HW
  iintro ⟨H30, H31, H32, S40, S41, S45, HF, HB0, ⟨%W2, HW⟩⟩
  have hB0 : ((blo (sI (grid0.coords t)))).val = t.val - 8 := by show _ = _; simp only [blo]; omega
  have hb : VecWindow.window (out1 m c) (k0_off14 (grid0.coords t)) ![256, 64] (k0_off14_inb (grid0.coords t) h5) = rows256 (out1 m c) (blo (sI (grid0.coords t))) := window_rows256 _ _ (by rw [off14_eq _ h5, hc]; rw [hB0]) _
  have hb' : VecWindow.window (out2 m c) (k0_off14 (grid0.coords t)) ![256, 64] (k0_off14_inb (grid0.coords t) h5) = rows256 (out2 m c) (blo (sI (grid0.coords t))) := window_rows256 _ _ (by rw [off14_eq _ h5, hc]; rw [hB0]) _
  have hB : ((blo (sI (grid0.coords t)))).val = t.val - 8 := by exact hB0
  rw [hb, hb']
  isplitl [S39 S40 S41 S45 HF HB0 HR Hg]
  · iexists x39, (out1 m c), (out2 m c), (pair (acc0 m c (t.val + 1 - 8)) (acc1 m c (t.val + 1 - 8)))
    isplitr; · ipureintro; exact invE t hI (by omega)
    rw [acc0_step t (by omega) _ hB, acc1_step t (by omega) _ hB]
    rw [show t.val - 8 = 0 by omega]
    isplitl [S39]; · iexact S39
    isplitl [S40]; · iexact S40
    isplitl [S41]; · iexact S41
    isplitl [S45]; · iexact S45
    isplitl [HF HB0 HR]
    · isplitl [HF HB0]
      · isplitl [HF]; · iexact HF
        iexact HB0
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

set_option maxHeartbeats 2000000 in
/-- The body at a point that computes a further attention step that restarts its slot. -/
theorem stepF (ht : 9 ≤ t.val ∧ t.val < 12) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : k0_cond5 (grid0.coords t) = 1#1 := (C.2.2.2.2.1).mpr (by omega)
  have h6 : ¬ c6 (grid0.coords t) = 1#1 := fun h => absurd ((C.2.2.2.2.2.1).mp h) (by omega)
  have h7 : k0_cond7 (grid0.coords t) = 1#1 := (C.2.2.2.2.2.2.1).mpr (by omega)
  have h8 : ¬ k0_cond8 (grid0.coords t) = 1#1 := fun h => absurd ((C.2.2.2.2.2.2.2).mp h) (by omega)
  have hs : (sI (grid0.coords t)).val = t.val % 4 := by show (grid0.coords t 0).val % 4 = _; rw [hc]
  have e0 := slotSt_1 (F := F) c (V m c main_arg2) (V m c main_arg3) (V m c main_arg29) t.val (sI (grid0.coords t)) (by omega) (by omega)
  have e1 := slotSt_2 (F := F) c (V m c main_arg2) (V m c main_arg3) (V m c main_arg29) (t.val + 1) (sI (grid0.coords t)) (by omega) (by omega)
  unfold Phi Owe Ins
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HF, HB1⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  obtain rfl := hI.e1 (by omega)
  obtain rfl := hI.e2 (by omega)
  obtain rfl := hI.ac (by omega)
  iapply (runF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h7 h8 (iblk m c 30 t) (iblk m c 31 t) (iblk m c 32 t) (out1 m c) (out2 m c) (pair (acc0 m c (t.val - 8)) (acc1 m c (t.val - 8))) (V m c main_arg2) (V m c main_arg3) (V m c main_arg29) W _)
  isplitl [H30 H31 H32 S40 S41 S45 HF HB1 HW]
  · isplitl [H30]; · iexact H30
    isplitl [H31]; · iexact H31
    isplitl [H32]; · iexact H32
    isplitl [S40]; · iexact S40
    isplitl [S41]; · iexact S41
    isplitl [S45]; · iexact S45
    isplitl [HF]; · iexact HF
    isplitl [HB1]; · iexact HB1
    iexact HW
  iintro ⟨H30, H31, H32, S40, S41, S45, HF, HB0, ⟨%W2, HW⟩⟩
  have hB0 : ((blo (sI (grid0.coords t)))).val = t.val - 8 := by show _ = _; simp only [blo]; omega
  have hb : VecWindow.window (out1 m c) (k0_off14 (grid0.coords t)) ![256, 64] (k0_off14_inb (grid0.coords t) h5) = rows256 (out1 m c) (blo (sI (grid0.coords t))) := window_rows256 _ _ (by rw [off14_eq _ h5, hc]; rw [hB0]) _
  have hb' : VecWindow.window (out2 m c) (k0_off14 (grid0.coords t)) ![256, 64] (k0_off14_inb (grid0.coords t) h5) = rows256 (out2 m c) (blo (sI (grid0.coords t))) := window_rows256 _ _ (by rw [off14_eq _ h5, hc]; rw [hB0]) _
  have hB : ((blo (sI (grid0.coords t)))).val = t.val - 8 := by exact hB0
  rw [hb, hb']
  isplitl [S39 S40 S41 S45 HF HB0 HR Hg]
  · iexists x39, (out1 m c), (out2 m c), (pair (acc0 m c (t.val + 1 - 8)) (acc1 m c (t.val + 1 - 8)))
    isplitr; · ipureintro; exact invE t hI (by omega)
    rw [acc0_step t (by omega) _ hB, acc1_step t (by omega) _ hB]
    isplitl [S39]; · iexact S39
    isplitl [S40]; · iexact S40
    isplitl [S41]; · iexact S41
    isplitl [S45]; · iexact S45
    isplitl [HF HB0 HR]
    · isplitl [HF HB0]
      · isplitl [HF]; · iexact HF
        iexact HB0
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

end Steps
end Cert.KernelIdeal.Hand
end
-- ==== Proof.KI.Steps3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Inv
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

section Steps
variable (m : (ℓ : Loc nD τ sig) → Buf (Elt F) ℓ) (c : Dev nD)
variable (t : Fin cfg0.N)

set_option maxHeartbeats 2000000 in
/-- The body at a point that computes an attention step that leaves its slot at rest. -/
theorem stepG (ht : 12 ≤ t.val ∧ t.val < 15) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : k0_cond5 (grid0.coords t) = 1#1 := (C.2.2.2.2.1).mpr (by omega)
  have h6 : ¬ c6 (grid0.coords t) = 1#1 := fun h => absurd ((C.2.2.2.2.2.1).mp h) (by omega)
  have h7 : ¬ k0_cond7 (grid0.coords t) = 1#1 := fun h => absurd ((C.2.2.2.2.2.2.1).mp h) (by omega)
  have h8 : ¬ k0_cond8 (grid0.coords t) = 1#1 := fun h => absurd ((C.2.2.2.2.2.2.2).mp h) (by omega)
  have hs : (sI (grid0.coords t)).val = t.val % 4 := by show (grid0.coords t 0).val % 4 = _; rw [hc]
  have e0 := slotSt_2 (F := F) c (V m c main_arg2) (V m c main_arg3) (V m c main_arg29) t.val (sI (grid0.coords t)) (by omega) (by omega)
  have e1 := slotSt_3 (F := F) c (V m c main_arg2) (V m c main_arg3) (V m c main_arg29) (t.val + 1) (sI (grid0.coords t)) (by omega)
  unfold Phi Owe Ins
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HF, HB0⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, HZ⟩
  obtain rfl := hI.e1 (by omega)
  obtain rfl := hI.e2 (by omega)
  obtain rfl := hI.ac (by omega)
  iapply (runG c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h7 h8 (iblk m c 30 t) (iblk m c 31 t) (iblk m c 32 t) (out1 m c) (out2 m c) (pair (acc0 m c (t.val - 8)) (acc1 m c (t.val - 8))) (V m c main_arg2) (V m c main_arg3) (V m c main_arg29) W _)
  isplitl [H30 H31 H32 S40 S41 S45 HF HW]
  · isplitl [H30]; · iexact H30
    isplitl [H31]; · iexact H31
    isplitl [H32]; · iexact H32
    isplitl [S40]; · iexact S40
    isplitl [S41]; · iexact S41
    isplitl [S45]; · iexact S45
    isplitl [HF]; · iexact HF
    iexact HW
  iintro ⟨H30, H31, H32, S40, S41, S45, HS, HB1, ⟨%W2, HW⟩⟩
  have hB0 : ((bhi (sI (grid0.coords t)))).val = t.val - 8 := by show _ = _; simp only [bhi]; omega
  have hb : VecWindow.window (out1 m c) (k0_off14 (grid0.coords t)) ![256, 64] (k0_off14_inb (grid0.coords t) h5) = rows256 (out1 m c) (bhi (sI (grid0.coords t))) := window_rows256 _ _ (by rw [off14_eq _ h5, hc]; rw [hB0]) _
  have hb' : VecWindow.window (out2 m c) (k0_off14 (grid0.coords t)) ![256, 64] (k0_off14_inb (grid0.coords t) h5) = rows256 (out2 m c) (bhi (sI (grid0.coords t))) := window_rows256 _ _ (by rw [off14_eq _ h5, hc]; rw [hB0]) _
  have hB : ((bhi (sI (grid0.coords t)))).val = t.val - 8 := by exact hB0
  rw [hb, hb']
  isplitl [S39 S40 S41 S45 HS HB0 HB1 HR Hg]
  · iexists x39, (out1 m c), (out2 m c), (pair (acc0 m c (t.val + 1 - 8)) (acc1 m c (t.val + 1 - 8)))
    isplitr; · ipureintro; exact invE t hI (by omega)
    rw [acc0_step t (by omega) _ hB, acc1_step t (by omega) _ hB]
    isplitl [S39]; · iexact S39
    isplitl [S40]; · iexact S40
    isplitl [S41]; · iexact S41
    isplitl [S45]; · iexact S45
    isplitl [HS HB0 HB1 HR]
    · isplitl [HS HB0 HB1]
      · isplitl [HS]; · iexact HS
        isplitl [HB0]; · iexact HB0
        iexact HB1
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact HZ

set_option maxHeartbeats 2000000 in
/-- The body at a point that computes the last attention step, and the result. -/
theorem stepH (ht : t.val = 15) :
    (iprop(Phi m c t.val ∗ Owe c ∗ Ins m c t ∗ (∃ x, Out c t x)) : sProp 𝕄) ⊢ wp frame (wpE (defs₀ (F := F)) 𝒱₀ (c : Thread nD τ) none) Set.univ (bodyAt0 t) (fun _ => iprop(Phi m c (t.val + 1) ∗ Owe c ∗ Ins m c t ∗ Out c t (fin m c))) := by
  have hN : t.val < 16 := t.isLt
  have C := conds t
  have hc := coords_val t
  have h1 : ¬ k0_cond1 (grid0.coords t) = 1#1 := fun h => absurd ((C.1).mp h) (by omega)
  have h2 : ¬ c2 (grid0.coords t) = 1#1 := fun h => absurd ((C.2.1).mp h) (by omega)
  have h3 : ¬ k0_cond3 (grid0.coords t) = 1#1 := fun h => absurd ((C.2.2.1).mp h) (by omega)
  have h4 : ¬ c4 (grid0.coords t) = 1#1 := fun h => absurd ((C.2.2.2.1).mp h) (by omega)
  have h5 : k0_cond5 (grid0.coords t) = 1#1 := (C.2.2.2.2.1).mpr (by omega)
  have h6 : ¬ c6 (grid0.coords t) = 1#1 := fun h => absurd ((C.2.2.2.2.2.1).mp h) (by omega)
  have h7 : ¬ k0_cond7 (grid0.coords t) = 1#1 := fun h => absurd ((C.2.2.2.2.2.2.1).mp h) (by omega)
  have h8 : k0_cond8 (grid0.coords t) = 1#1 := (C.2.2.2.2.2.2.2).mpr (by omega)
  have hs : (sI (grid0.coords t)).val = t.val % 4 := by show (grid0.coords t 0).val % 4 = _; rw [hc]
  have e0 := slotSt_2 (F := F) c (V m c main_arg2) (V m c main_arg3) (V m c main_arg29) t.val (sI (grid0.coords t)) (by omega) (by omega)
  have e1 := slotSt_3 (F := F) c (V m c main_arg2) (V m c main_arg3) (V m c main_arg29) (t.val + 1) (sI (grid0.coords t)) (by omega)
  unfold Phi Owe Ins Out
  simp only [owns_eq_rep]
  rw [ring_take c (V m c main_arg2) (V m c main_arg3) (V m c main_arg29) t.val (sI (grid0.coords t)),
    ← ring_put c (V m c main_arg2) (V m c main_arg3) (V m c main_arg29) t.val hN (sI (grid0.coords t)) hs.symm, e0, e1]
  iintro ⟨⟨%x39, %x40, %x41, %x45, %hI, S39, S40, S41, S45, ⟨⟨HF, HB0⟩, HR⟩, Hg⟩, ⟨%W, HW⟩, ⟨H0, H1, H2, H3, H4, H5, H6, H7, H8, H9, H10, H11, H12, H13, H14, H15, H16, H17, H18, H19, H20, H21, H22, H23, H24, H25, H26, H27, H28, H29, H30, H31, H32, H33⟩, ⟨%x38, HO⟩⟩
  obtain rfl := hI.e1 (by omega)
  obtain rfl := hI.e2 (by omega)
  obtain rfl := hI.ac (by omega)
  iapply (runH c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (Memref.whole cc0_scratch0) (Memref.isWhole_whole _) (Memref.whole cc0_scratch1) (Memref.isWhole_whole _) (Memref.whole cc0_scratch2) (Memref.isWhole_whole _) (Memref.whole cc0_scratch6) (Memref.isWhole_whole _) h1 h2 h3 h4 h5 h6 h7 h8 (iblk m c 30 t) (iblk m c 31 t) (iblk m c 32 t) (out1 m c) (out2 m c) (iblk m c 33 t) (pair (acc0 m c (t.val - 8)) (acc1 m c (t.val - 8))) x38 (V m c main_arg2) (V m c main_arg3) (V m c main_arg29) W _)
  isplitl [H30 H31 H32 S40 S41 H33 S45 HO HF HW]
  · isplitl [H30]; · iexact H30
    isplitl [H31]; · iexact H31
    isplitl [H32]; · iexact H32
    isplitl [S40]; · iexact S40
    isplitl [S41]; · iexact S41
    isplitl [H33]; · iexact H33
    isplitl [S45]; · iexact S45
    isplitl [HO]; · iexact HO
    isplitl [HF]; · iexact HF
    iexact HW
  iintro ⟨H30, H31, H32, S40, S41, H33, S45, HO, HS, HB1, ⟨%W2, HW⟩⟩
  have hB0 : ((bhi (sI (grid0.coords t)))).val = t.val - 8 := by show _ = _; simp only [bhi]; omega
  have hb : VecWindow.window (out1 m c) (k0_off14 (grid0.coords t)) ![256, 64] (k0_off14_inb (grid0.coords t) h5) = rows256 (out1 m c) (bhi (sI (grid0.coords t))) := window_rows256 _ _ (by rw [off14_eq _ h5, hc]; rw [hB0]) _
  have hb' : VecWindow.window (out2 m c) (k0_off14 (grid0.coords t)) ![256, 64] (k0_off14_inb (grid0.coords t) h5) = rows256 (out2 m c) (bhi (sI (grid0.coords t))) := window_rows256 _ _ (by rw [off14_eq _ h5, hc]; rw [hB0]) _
  have hB : ((bhi (sI (grid0.coords t)))).val = t.val - 8 := by exact hB0
  rw [hb, hb']
  isplitl [S39 S40 S41 S45 HS HB0 HB1 HR Hg]
  · iexists x39, (out1 m c), (out2 m c), (pair (acc0 m c (t.val + 1 - 8)) (acc1 m c (t.val + 1 - 8)))
    isplitr; · ipureintro; exact invE t hI (by omega)
    rw [acc0_step t (by omega) _ hB, acc1_step t (by omega) _ hB]
    isplitl [S39]; · iexact S39
    isplitl [S40]; · iexact S40
    isplitl [S41]; · iexact S41
    isplitl [S45]; · iexact S45
    isplitl [HS HB0 HB1 HR]
    · isplitl [HS HB0 HB1]
      · isplitl [HS]; · iexact HS
        isplitl [HB0]; · iexact HB0
        iexact HB1
      iexact HR
    iexact Hg
  isplitl [HW]; · iexists _; iexact HW
  isplitl [H0 H1 H2 H3 H4 H5 H6 H7 H8 H9 H10 H11 H12 H13 H14 H15 H16 H17 H18 H19 H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  obtain rfl : t = t0_15 := Fin.ext ht
  have ef : fin m c = k0_pay4 (step0 m c t0_15 (bhi (sI (grid0.coords t0_15))) (acc0 m c 7)) (iblk m c 33 t0_15 (i2 0)) (step1 m c t0_15 (bhi (sI (grid0.coords t0_15))) (acc1 m c 7)) (iblk m c 33 t0_15 (i2 1)) := by
    unfold fin
    rw [show acc0 m c 8 = _ from acc0_step t0_15 (by omega) _ hB, show acc1 m c 8 = _ from acc1_step t0_15 (by omega) _ hB]
    rfl
  rw [ef]
  iexact HO

end Steps
end Cert.KernelIdeal.Hand
end
-- ==== Proof.KI.Obl.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Data
public import proofs.«01_k».proof.Proof.KI.Steps1
public import proofs.«01_k».proof.Proof.KI.Steps2
public import proofs.«01_k».proof.Proof.KI.Steps3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

/-! ## The body obligation -/

section Obligation
variable (m : (ℓ : Loc nD τ sig) → Buf (Elt F) ℓ) (c : Dev nD)

/-- The result window's staging buffer after point `t`: untouched before the last point, at the result there. -/
def Post34 (t : Fin cfg0.N) : sProp 𝕄 :=
  match cfg0.idle 34 (cfg0.grid.coords t) with
  | true => match (cfg0.win 34).flush t with
    | false => iprop(∃ d, owns (c : Thread nD τ) (st0_34 t) fullShare ((dats m 0 c).before 34 t d))
    | true => owns (c : Thread nD τ) (st0_34 t) fullShare ((dats m 0 c).after 34 t)
  | false => owns (c : Thread nD τ) (st0_34 t) fullShare ((dats m 0 c).after 34 t)

/-- Before the last point the result's buffer is as the body found it. -/
theorem post34_early (t : Fin cfg0.N) (ht : t.val ≠ 15) :
    (Post34 m c t : sProp 𝕄) = iprop(∃ d, owns (c : Thread nD τ) (st0_34 t) fullShare ((dats m 0 c).before 34 t d)) := by
  have hN : t.val < 16 := t.isLt
  have h8 : ¬ k0_cond8 (grid0.coords t) = 1#1 := fun h => ht ((conds t).2.2.2.2.2.2.2.mp h)
  have hi : cfg0.idle 34 (cfg0.grid.coords t) = true := by
    show (!(k0_cond5 (grid0.coords t) == 1#1 && k0_cond8 (grid0.coords t) == 1#1)) = true
    simp [h8]
  have hf : (cfg0.win 34).flush t = false := by
    rw [Bool.eq_false_iff]; intro h; have := (flush0_34 t).mp h; omega
  unfold Post34; rw [hi, hf]
/-- After the last point it holds the result. -/
theorem post34_last (t : Fin cfg0.N) (ht : t.val = 15) : (Post34 m c t : sProp 𝕄) = Out c t (fin m c) := by
  have h8 : k0_cond8 (grid0.coords t) = 1#1 := (conds t).2.2.2.2.2.2.2.mpr ht
  have h5 : k0_cond5 (grid0.coords t) = 1#1 := (conds t).2.2.2.2.1.mpr (by omega)
  have hi : cfg0.idle 34 (cfg0.grid.coords t) = false := by
    show (!(k0_cond5 (grid0.coords t) == 1#1 && k0_cond8 (grid0.coords t) == 1#1)) = false
    simp [h8, h5]
  unfold Post34 Out; rw [hi]; dsimp only; rw [after_34]

/-- What the body finds at point `t` and what it leaves. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ Post34 m c t)

/-- Before the body: the invariant, nothing owed, every input window at its block, the result window at anything. -/
theorem pre_open (t : Fin cfg0.N) : (bodyPre m c t : sProp 𝕄)
    ⊢ iprop(Phi m c t.val ∗ Owe c ∗ Ins m c t ∗ (∃ d, owns (c : Thread nD τ) (st0_34 t) fullShare ((dats m 0 c).before 34 t d))) := by
  unfold bodyPre Owe Ins
  rw [show (dats m 0 c).Φ t.castSucc = Phi m c t.val from rfl]
  unfold Dat.owesAt Pipeline.owesWithin
  rw [show (dats m 0 c).owed t.castSucc = 0 from rfl]
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, before_32, before_33]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, H34⟩
  isplitl [HP]; · iexact HP
  isplitl [HW]; · iexists W; iexact HW
  isplitr [H34]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact H34

/-- After the body: the invariant at the next point and every window as the pipeline wants it. -/
theorem post_close (t : Fin cfg0.N) : (iprop(Phi m c (t.val + 1) ∗ Owe c ∗ Ins m c t ∗ Post34 m c t) : sProp 𝕄) ⊢ bodyPost m c t := by
  unfold bodyPost Owe Ins
  rw [show (dats m 0 c).Φ t.succ = Phi m c (t.val + 1) from rfl]
  unfold Dat.owesAt Pipeline.owesWithin
  rw [show (dats m 0 c).owed t.succ = 0 from rfl]
  simp only [after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33]
  iintro ⟨HP, ⟨%W, HW⟩, ⟨H0, H1, H2, H3, H4, H5, H6, H7, H8, H9, H10, H11, H12, H13, H14, H15, H16, H17, H18, H19, H20, H21, H22, H23, H24, H25, H26, H27, H28, H29, H30, H31, H32, H33⟩, H34⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The body at a point before the last, whatever the class of the point. -/
theorem step_early (t : Fin cfg0.N) (ht : t.val ≠ 15) (R : sProp 𝕄) :
    (iprop(Phi m c t.val ∗ Owe c ∗ Ins m c t ∗ R) : sProp 𝕄) ⊢ wp frame (wpE (defs₀ (F := F)) 𝒱₀ (c : Thread nD τ) none) Set.univ (bodyAt0 t) (fun _ => iprop(Phi m c (t.val + 1) ∗ Owe c ∗ Ins m c t ∗ R)) := by
  have hN : t.val < 16 := t.isLt
  by_cases hA : t.val < 3
  · exact stepA m c t hA R
  by_cases hB : t.val = 3
  · exact stepB m c t hB R
  by_cases hC : t.val < 7
  · exact stepC m c t ⟨by omega, hC⟩ R
  by_cases hD : t.val = 7
  · exact stepD m c t hD R
  by_cases hE : t.val = 8
  · exact stepE m c t hE R
  by_cases hF : t.val < 12
  · exact stepF m c t ⟨by omega, hF⟩ R
  exact stepG m c t ⟨by omega, by omega⟩ R

/-- The body, at every point. -/
theorem sound_body (t : Fin cfg0.N) : (bodyPre m c t : sProp 𝕄) ⊢ wp frame (wpE (defs₀ (F := F)) 𝒱₀ (c : Thread nD τ) none) Set.univ (bodyAt0 t) (fun _ => bodyPost m c t) := by
  by_cases ht : t.val = 15
  · refine (pre_open m c t).trans (.trans ?_ ((stepH m c t ht).trans (wp_mono _ _ _ fun _ => ?_)))
    · unfold Out
      iintro ⟨HP, HO, HI, ⟨%d, H34⟩⟩
      isplitl [HP]; · iexact HP
      isplitl [HO]; · iexact HO
      isplitl [HI]; · iexact HI
      iexists ((dats m 0 c).before 34 t d)
      iexact H34
    · rw [← post34_last m c t ht]; exact post_close m c t
  · refine (pre_open m c t).trans ((step_early m c t ht _).trans (wp_mono _ _ _ fun _ => ?_))
    rw [← post34_early m c t ht]; exact post_close m c t

/-- The pipeline's call of the body is the body at the point. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- What the pipeline asks of the body, at every point. -/
theorem body_obligation : BodyObligationLoose (dats (F := F) m 0 c) (defs₀ (F := F)) 𝒱₀ () Set.univ := fun t => by
  rw [bigSep_W0, bigSep_W0, defs₀_row]
  exact triple_restated (sound_body m c t) rfl .rfl fun _ => .rfl
end Obligation
end Cert.KernelIdeal.Hand
end
-- ==== Proof.KI.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.Tactic
public import Idealize.ShloMosaic.Lib.WordCmp
public import proofs.«01_k».proof.Proof.KI.Ring

public import proofs.«01_k».proof.Proof.KI.Obl

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof: the pipeline library's algebra beside the transfers' counters. -/
local notation "𝕄" => MT nD τ sig Unit (Elt F) ℕ (Pipeline.UD sig nD τ) ℕ

/-! ## The launch -/

section Launch
variable (m : (ℓ : Loc nD τ sig) → Buf (Elt F) ℓ) (ρ : Dev nD → PrngReg)

set_option maxHeartbeats 800000 in
/-- The program around the region: the reshapes before it, the region, the slice after it. -/
theorem hmain : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The slice after the region touches no array the body copies from. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ H0 op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  simp only [StableHlo.unary_bufs, Finset.mem_insert, Finset.mem_singleton, not_or]
  rcases hb with rfl | rfl | rfl <;> exact ⟨StableHlo.devRef_ne_of_ne (by decide), StableHlo.devRef_ne_of_ne (by decide)⟩

/-- An array neither staged nor written by the slice ends as the region found it. -/
theorem tail_keeps (c : Dev nD) (b : Ref sig .tc) (hb : main_v20 ≠ b) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne hb.symm)),
    Pipeline.withArrays_of_ne _ c (V0 m c) _ b hw]

set_option backward.isDefEq.respectTransparency.types false in
/-- The run: every array at what the pipeline leaves, every other buffer at what the slice leaves, every counter at zero. -/
theorem run_main [Inhabited (F .f32)] : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ 𝒱₀ ownSemFacts0 H0 H0_sub m ρ main
    (hbody := fun c => body_obligation m c) (hq := fun _ _ _ => rfl) (howed := fun _ _ => rfl) (V₀ := V0 m) (opss := [hostOps1])
    (hsub := tail_sub) (hfresh := sfx_fresh) (hkeep := sfx_keeps) (hmain := hmain m) (hA := A_eq m)
    (hin := fun c => hin m c) (hout := fun c => hout m c)

/-- An argument that no window stages ends as it was. -/
theorem rest_kept (c : Dev nD) (r : PUnit × MemSt nD τ sig (Elt F)) (h : Pipeline.FramePost cfgs (dats m) 0 (Pipeline.afterTail₀ cfgs (dats m) 0 (V0 m) [hostOps1]) r)
    (b : Ref sig .tc) (h1 : b ∈ Pipeline.restRefs sig spec0) (hb : main_v20 ≠ b) (hw : ∀ w, Pipeline.arrRef spec0 w ≠ b) (hV : V m c b = m ((c : Thread nD τ).loc b)) :
    r.2.mem ((c : Thread nD τ).loc b) = m ((c : Thread nD τ).loc b) :=
  ((h c).2 b h1).trans ((tail_keeps m c b hb hw).trans hV)
/-- An array that an input window stages ends as the region found it. -/
theorem staged_kept (c : Dev nD) (r : PUnit × MemSt nD τ sig (Elt F)) (h : Pipeline.FramePost cfgs (dats m) 0 (Pipeline.afterTail₀ cfgs (dats m) 0 (V0 m) [hostOps1]) r)
    (w : Fin cfg0.W) (hi : (cfg0.win w).isOut = false) : r.2.mem ((c : Thread nD τ).loc (Pipeline.arrRef spec0 w)) = V m c (Pipeline.arrRef spec0 w) :=
  ((h c).1 w).trans (((dats m 0 c).arrAt_in w hi _).trans (A_eq m c w))

/-- What a run leaves in the argument arrays: what was there. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)
  ∧ mem ((c.tc : Thread nD τ).loc main_arg26) = m ((c.tc : Thread nD τ).loc main_arg26)
  ∧ mem ((c.tc : Thread nD τ).loc main_arg27) = m ((c.tc : Thread nD τ).loc main_arg27)
  ∧ mem ((c.tc : Thread nD τ).loc main_arg28) = m ((c.tc : Thread nD τ).loc main_arg28)
  ∧ mem ((c.tc : Thread nD τ).loc main_arg29) = m ((c.tc : Thread nD τ).loc main_arg29)
  ∧ mem ((c.tc : Thread nD τ).loc main_arg30) = m ((c.tc : Thread nD τ).loc main_arg30)
  ∧ mem ((c.tc : Thread nD τ).loc main_arg31) = m ((c.tc : Thread nD τ).loc main_arg31)
  ∧ mem ((c.tc : Thread nD τ).loc main_arg32) = m ((c.tc : Thread nD τ).loc main_arg32)

set_option maxHeartbeats 2000000 in
/-- Every argument ends as it was. -/
theorem args_kept (c : Dev nD) (r : PUnit × MemSt nD τ sig (Elt F)) (h : Pipeline.FramePost cfgs (dats m) 0 (Pipeline.afterTail₀ cfgs (dats m) 0 (V0 m) [hostOps1]) r) :
    ArgsKept m r.2.mem c :=
  ⟨(staged_kept m c r h 1 rfl).trans (V_main_arg0 m c),
    (staged_kept m c r h 3 rfl).trans (V_main_arg1 m c),
    rest_kept m c r h main_arg2 (Pipeline.mem_restRefs_of main_arg2 (by decide) (by decide)) (by decide) (by decide) (V_main_arg2 m c),
    rest_kept m c r h main_arg3 (Pipeline.mem_restRefs_of main_arg3 (by decide) (by decide)) (by decide) (by decide) (V_main_arg3 m c),
    (staged_kept m c r h 5 rfl).trans (V_main_arg4 m c),
    rest_kept m c r h main_arg5 (Pipeline.mem_restRefs_of main_arg5 (by decide) (by decide)) (by decide) (by decide) (V_main_arg5 m c),
    rest_kept m c r h main_arg6 (Pipeline.mem_restRefs_of main_arg6 (by decide) (by decide)) (by decide) (by decide) (V_main_arg6 m c),
    rest_kept m c r h main_arg7 (Pipeline.mem_restRefs_of main_arg7 (by decide) (by decide)) (by decide) (by decide) (V_main_arg7 m c),
    (staged_kept m c r h 9 rfl).trans (V_main_arg8 m c),
    rest_kept m c r h main_arg9 (Pipeline.mem_restRefs_of main_arg9 (by decide) (by decide)) (by decide) (by decide) (V_main_arg9 m c),
    rest_kept m c r h main_arg10 (Pipeline.mem_restRefs_of main_arg10 (by decide) (by decide)) (by decide) (by decide) (V_main_arg10 m c),
    rest_kept m c r h main_arg11 (Pipeline.mem_restRefs_of main_arg11 (by decide) (by decide)) (by decide) (by decide) (V_main_arg11 m c),
    (staged_kept m c r h 13 rfl).trans (V_main_arg12 m c),
    rest_kept m c r h main_arg13 (Pipeline.mem_restRefs_of main_arg13 (by decide) (by decide)) (by decide) (by decide) (V_main_arg13 m c),
    rest_kept m c r h main_arg14 (Pipeline.mem_restRefs_of main_arg14 (by decide) (by decide)) (by decide) (by decide) (V_main_arg14 m c),
    rest_kept m c r h main_arg15 (Pipeline.mem_restRefs_of main_arg15 (by decide) (by decide)) (by decide) (by decide) (V_main_arg15 m c),
    (staged_kept m c r h 18 rfl).trans (V_main_arg16 m c),
    rest_kept m c r h main_arg17 (Pipeline.mem_restRefs_of main_arg17 (by decide) (by decide)) (by decide) (by decide) (V_main_arg17 m c),
    rest_kept m c r h main_arg18 (Pipeline.mem_restRefs_of main_arg18 (by decide) (by decide)) (by decide) (by decide) (V_main_arg18 m c),
    rest_kept m c r h main_arg19 (Pipeline.mem_restRefs_of main_arg19 (by decide) (by decide)) (by decide) (by decide) (V_main_arg19 m c),
    (staged_kept m c r h 22 rfl).trans (V_main_arg20 m c),
    rest_kept m c r h main_arg21 (Pipeline.mem_restRefs_of main_arg21 (by decide) (by decide)) (by decide) (by decide) (V_main_arg21 m c),
    rest_kept m c r h main_arg22 (Pipeline.mem_restRefs_of main_arg22 (by decide) (by decide)) (by decide) (by decide) (V_main_arg22 m c),
    rest_kept m c r h main_arg23 (Pipeline.mem_restRefs_of main_arg23 (by decide) (by decide)) (by decide) (by decide) (V_main_arg23 m c),
    (staged_kept m c r h 26 rfl).trans (V_main_arg24 m c),
    rest_kept m c r h main_arg25 (Pipeline.mem_restRefs_of main_arg25 (by decide) (by decide)) (by decide) (by decide) (V_main_arg25 m c),
    rest_kept m c r h main_arg26 (Pipeline.mem_restRefs_of main_arg26 (by decide) (by decide)) (by decide) (by decide) (V_main_arg26 m c),
    rest_kept m c r h main_arg27 (Pipeline.mem_restRefs_of main_arg27 (by decide) (by decide)) (by decide) (by decide) (V_main_arg27 m c),
    (staged_kept m c r h 32 rfl).trans (V_main_arg28 m c),
    rest_kept m c r h main_arg29 (Pipeline.mem_restRefs_of main_arg29 (by decide) (by decide)) (by decide) (by decide) (V_main_arg29 m c),
    rest_kept m c r h main_arg30 (Pipeline.mem_restRefs_of main_arg30 (by decide) (by decide)) (by decide) (by decide) (V_main_arg30 m c),
    rest_kept m c r h main_arg31 (Pipeline.mem_restRefs_of main_arg31 (by decide) (by decide)) (by decide) (by decide) (V_main_arg31 m c),
    (staged_kept m c r h 33 rfl).trans (V_main_arg32 m c)⟩

/-- The frame: the program ends, its arguments as they were and every counter at zero. -/
theorem frame_kept [Inhabited (F .f32)] : θ_run defs (onTc (τ := τ) (main (F := F))) ⟨m, fun _ => 0, ρ⟩ (fun r => (∀ c : Dev nD, ArgsKept m r.2.mem c) ∧ r.2.sem = fun _ => 0) :=
  (θ_run defs _ _).mono (fun r h => ⟨fun c => args_kept m c r h.1, h.2⟩) (run_main m ρ)
end Launch
end Cert.KernelIdeal.Hand
end
-- ==== Proof.V.Spec.lean ====
module
public import Idealize.ShloMosaic.Lib.Pointwise
public import Idealize.ShloMosaic.Lib.Pipeline.ValueKit

@[expose] public section
set_option maxRecDepth 16384
noncomputable section

/-! The mathematics that both programs compute, over the extended reals, as plain functions of rows and columns. -/
namespace Cert.Val
open Idealize.ShloMosaic

/-- The number of rows and the small constant under the root, as the programs write them. -/
abbrev cN : EReal := Ideal.ofBits FTy.f32 1157627904#32
abbrev cE : EReal := Ideal.ofBits FTy.f32 925353388#32

/-- A linear layer: row `i` of `x` against row `j` of `w`, plus a bias. -/
def lin {n k p : ℕ} (x : Fin n → Fin k → EReal) (w : Fin p → Fin k → EReal) (b : Fin p → EReal) (i : Fin n) (j : Fin p) : EReal :=
  ∑ x_1, x i x_1 * w j x_1 + b j

/-- The mean of column `j`. -/
def mean {n k : ℕ} (h : Fin n → Fin k → EReal) (j : Fin k) : EReal := Ideal.div (∑ x, h x j) cN

/-- The variance of column `j`. -/
def var {n k : ℕ} (h : Fin n → Fin k → EReal) (j : Fin k) : EReal :=
  Ideal.div (∑ x, (h x j - mean h j) * (h x j - mean h j)) cN

/-- Normalisation of each column, scaled and shifted, then cut off below zero. -/
def bnr {n k : ℕ} (h : Fin n → Fin k → EReal) (g b : Fin k → EReal) (i : Fin n) (j : Fin k) : EReal :=
  max (Ideal.div (h i j - mean h j) (Ideal.sqrt (var h j + cE)) * g j + b j) 0

/-- An encoder from its first layer's sums on. -/
def enc {n p q r : ℕ} (h : Fin n → Fin p → EReal) (g1 e1 : Fin p → EReal) (w2 : Fin q → Fin p → EReal) (b2 g2 e2 : Fin q → EReal)
    (w3 : Fin r → Fin q → EReal) (b3 g3 e3 : Fin r → EReal) : Fin n → Fin r → EReal :=
  bnr (lin (bnr (lin (bnr h g1 e1) w2 b2) g2 e2) w3 b3) g3 e3

/-- The mask of an adjacency entry: one where it is one. -/
def msk (x : EReal) : EReal := if x = 1 then 1 else 0

/-- Attention: the masked coefficients against the features, scaled, over the row's degree, plus the row's own features `r`. -/
def att {n m k : ℕ} (A C : Fin n → Fin m → EReal) (h : Fin m → Fin k → EReal) (W : EReal) (r : Fin n → Fin k → EReal) (i : Fin n) (j : Fin k) : EReal :=
  Ideal.div ((∑ x, C i x * msk (A i x) * h x j) * W) (∑ x, A i x) + r i j

/-- A softmax over two logits, at the first. -/
def soft (a b : EReal) : EReal := Ideal.div (Ideal.exp (a - max a b)) (Ideal.exp (a - max a b) + Ideal.exp (b - max a b))

/-- The mask, as the kernel converts it (a condition widened, then read signed) and as the reference does. -/
theorem msk_s (x : EReal) : (FloatOps.sitofp FTy.f32 (BitVec.setWidth 32 (BitVec.ofBool (decide (x = 1)))) : Ideal .f32) = msk x := by
  unfold msk
  by_cases h : x = 1
  · rw [if_pos h, decide_eq_true h]
    show ((((BitVec.setWidth 32 (BitVec.ofBool true)).toInt : ℤ) : ℝ) : EReal) = 1
    rw [show (BitVec.setWidth 32 (BitVec.ofBool true)).toInt = 1 from rfl]; norm_num
  · rw [if_neg h, decide_eq_false h]
    show ((((BitVec.setWidth 32 (BitVec.ofBool false)).toInt : ℤ) : ℝ) : EReal) = 0
    rw [show (BitVec.setWidth 32 (BitVec.ofBool false)).toInt = 0 from rfl]; norm_num
/-- The mask as the reference converts it. -/
theorem msk_u (x : EReal) : (FloatOps.uitofp FTy.f32 (BitVec.ofBool (decide (x = 1))) : Ideal .f32) = msk x := by
  unfold msk
  by_cases h : x = 1
  · rw [if_pos h, decide_eq_true h]
    show ((((BitVec.ofBool true).toNat : ℕ) : ℝ) : EReal) = 1
    rw [show (BitVec.ofBool true).toNat = 1 from rfl]; norm_num
  · rw [if_neg h, decide_eq_false h]
    show ((((BitVec.ofBool false).toNat : ℕ) : ℝ) : EReal) = 0
    rw [show (BitVec.ofBool false).toNat = 0 from rfl]; norm_num

/-- The number of rows is 2048; nothing taken from it is itself; it is positive. -/
theorem cN_eq : cN = ((2048 : ℝ) : EReal) := by
  unfold cN; simp [Ideal.ofBits, Ideal.ieee, -EReal.coe_mul]; norm_num
/-- The rows less zero are the rows. -/
theorem cN_sub : cN - (FloatOps.sitofp FTy.f32 0#32 : Ideal .f32) = cN := by
  have h : (FloatOps.sitofp FTy.f32 0#32 : Ideal .f32) = (0 : EReal) := by
    show ((((0#32 : BitVec 32).toInt : ℤ) : ℝ) : EReal) = 0
    simp
  rw [h]; exact sub_zero cN
/-- There are rows. -/
theorem cN_pos : (0 : EReal) < cN := by rw [cN_eq]; exact_mod_cast (by norm_num : (0 : ℝ) < 2048)
/-- The word the maximum starts from is the least element. -/
theorem cBot : Ideal.ofBits FTy.f32 4286578688#32 = (⊥ : EReal) := by simp [Ideal.ofBits, Ideal.ieee]

/-- A sum over the rows of two stacked matrices, flattened, is the two sums by rows and columns. -/
theorem sum_cat (P Q : Fin 2048 → Fin 64 → EReal) (w : Fin 262144 → EReal) :
    (∑ x : Fin 262144, (if h : x.val / 64 < 2048 then P ⟨x.val / 64, h⟩ ⟨x.val % 64, Nat.mod_lt _ (by decide)⟩
        else Q ⟨x.val / 64 - 2048, by have := x.isLt; omega⟩ ⟨x.val % 64, Nat.mod_lt _ (by decide)⟩) * w x)
      = (∑ i : Fin 2048, ∑ k : Fin 64, P i k * w ⟨i.val * 64 + k.val, by have := i.isLt; have := k.isLt; omega⟩)
        + ∑ i : Fin 2048, ∑ k : Fin 64, Q i k * w ⟨131072 + (i.val * 64 + k.val), by have := i.isLt; have := k.isLt; omega⟩ := by
  let f : ℕ → EReal := fun x => if hx : x < 262144 then
      (if h : x / 64 < 2048 then P ⟨x / 64, h⟩ ⟨x % 64, Nat.mod_lt _ (by decide)⟩
        else Q ⟨x / 64 - 2048, by omega⟩ ⟨x % 64, Nat.mod_lt _ (by decide)⟩) * w ⟨x, hx⟩ else 0
  have e : ∀ x : Fin 262144, (if h : x.val / 64 < 2048 then P ⟨x.val / 64, h⟩ ⟨x.val % 64, Nat.mod_lt _ (by decide)⟩
        else Q ⟨x.val / 64 - 2048, by have := x.isLt; omega⟩ ⟨x.val % 64, Nat.mod_lt _ (by decide)⟩) * w x = f x.val := fun x => by
    show _ = dite _ _ _
    rw [dif_pos x.isLt]
  rw [Finset.sum_congr rfl fun x _ => e x]
  have e2 := Fin.sum_univ_univ_mul_add 4096 64 f
  refine e2.symm.trans ?_
  rw [show (∑ s : Fin 4096, ∑ k : Fin 64, f (s.val * 64 + k.val)) = ∑ s : Fin (2048 + 2048), ∑ k : Fin 64, f (s.val * 64 + k.val) from rfl, Fin.sum_univ_add]
  refine congrArg₂ (· + ·) (Finset.sum_congr rfl fun i _ => Finset.sum_congr rfl fun k _ => ?_) (Finset.sum_congr rfl fun i _ => Finset.sum_congr rfl fun k _ => ?_)
  · have hi := i.isLt; have hk := k.isLt
    show dite _ _ _ = _
    have c1 : (Fin.castAdd 2048 i).val = i.val := rfl
    have d : (i.val * 64 + k.val) / 64 = i.val := by omega
    have r : (i.val * 64 + k.val) % 64 = k.val := by omega
    rw [dif_pos (show (Fin.castAdd 2048 i).val * 64 + k.val < 262144 by rw [c1]; omega), dif_pos (show ((Fin.castAdd 2048 i).val * 64 + k.val) / 64 < 2048 by rw [c1]; omega)]
    refine congrArg₂ (· * ·) (congrArg₂ P (Fin.ext ?_) (Fin.ext ?_)) rfl
    · exact d
    · exact r
  · have hi := i.isLt; have hk := k.isLt
    show dite _ _ _ = _
    have c1 : (Fin.natAdd 2048 i).val = 2048 + i.val := rfl
    rw [dif_pos (show (Fin.natAdd 2048 i).val * 64 + k.val < 262144 by rw [c1]; omega), dif_neg (show ¬ ((Fin.natAdd 2048 i).val * 64 + k.val) / 64 < 2048 by rw [c1]; omega)]
    refine congrArg₂ (· * ·) (congrArg₂ Q (Fin.ext ?_) (Fin.ext ?_)) (congrArg w (Fin.ext ?_))
    · show ((2048 + i.val) * 64 + k.val) / 64 - 2048 = i.val; omega
    · show ((2048 + i.val) * 64 + k.val) % 64 = k.val; omega
    · show (2048 + i.val) * 64 + k.val = 131072 + (i.val * 64 + k.val); omega

/-- A sum over 2048 rows is the sum over 8 blocks of 256. -/
theorem sum_rows (f : Fin 2048 → EReal) :
    ∑ i, f i = ∑ n : Fin 8, ∑ r : Fin 256, f ⟨256 * n.val + r.val, by have := n.isLt; have := r.isLt; omega⟩ := by
  let g : ℕ → EReal := fun x => if hx : x < 2048 then f ⟨x, hx⟩ else 0
  have e : ∀ x : Fin 2048, f x = g x.val := fun x => by
    show _ = dite _ _ _
    rw [dif_pos x.isLt]
  rw [Finset.sum_congr rfl fun x _ => e x]
  refine (Fin.sum_univ_univ_mul_add 8 256 g).symm.trans ?_
  refine Finset.sum_congr rfl fun n _ => Finset.sum_congr rfl fun r _ => ?_
  have hn := n.isLt; have hr := r.isLt
  show dite _ _ _ = _
  rw [dif_pos (show n.val * 256 + r.val < 2048 by omega)]
  exact congrArg f (Fin.ext (by show n.val * 256 + r.val = 256 * n.val + r.val; omega))

/-- A sum over 2048 places is the sum of the two halves'. -/
theorem sum_halves (f : Fin 2048 → EReal) :
    ∑ i, f i = ∑ x : Fin 1024, f ⟨x.val, by have := x.isLt; omega⟩ + ∑ x : Fin 1024, f ⟨1024 + x.val, by have := x.isLt; omega⟩ :=
  Fin.sum_univ_add (a := 1024) (b := 1024) f

/-- A maximum folded over two places from the least element. -/
theorem fold_two (f : Fin 2 → EReal) : max (⊥ : EReal) (Finset.fold max ⊥ f Finset.univ) = max (f 0) (f 1) := by
  rw [show (Finset.univ : Finset (Fin 2)) = {0, 1} from rfl, Finset.fold_insert (by decide), Finset.fold_singleton]
  simp

end Cert.Val
end
-- ==== Proof.V.Kern.lean ====
module
public import proofs.«01_k».proof.Proof.KI.Vals
public import proofs.«01_k».proof.Proof.V.Spec
public import Idealize.ShloMosaic.Lib.Pointwise

@[expose] public section
set_option maxRecDepth 16384
noncomputable section

/-! The kernel's computations on its blocks, read at an index over the extended reals. -/
namespace Cert.KernelIdeal.Hand
open Cert.KernelIdeal Cert.KernelIdeal.Gen
open Idealize.ShloMosaic Idealize.ShloMosaic.TcCoe Idealize.ShloMosaic.Tactic
open Cert.Val

/-- A matrix as a function of row and column; a one-row matrix as a function of the column. -/
abbrev mx {a b : ℕ} (x : (⟨2, ![a, b]⟩ : Shape).Idx → EReal) : Fin a → Fin b → EReal := fun i j => x (ix2 i j)
abbrev rw1 {b : ℕ} (x : (⟨2, ![1, b]⟩ : Shape).Idx → EReal) : Fin b → EReal := fun j => x (ix2 0 j)

/-- The first layer's sums of a row block: the two halves of the contraction, then the bias. -/
theorem pay1_at (a b c d e) (i : Fin 512) (j : Fin 256) : k0_pay1 (F := Ideal) a b c d e (ix2 i j)
    = ∑ x : Fin 1024, a (ix2 i x) * b (ix2 j x) + ∑ x : Fin 1024, c (ix2 i x) * d (ix2 j x) + e (ix2 0 j) := by
  pointwise [k0_pay1]
/-- The same for the second encoder. -/
theorem pay13_at (a b c d e) (i : Fin 512) (j : Fin 256) : k0_pay13 (F := Ideal) a b c d e (ix2 i j)
    = ∑ x : Fin 1024, a (ix2 i x) * b (ix2 j x) + ∑ x : Fin 1024, c (ix2 i x) * d (ix2 j x) + e (ix2 0 j) := by
  pointwise [k0_pay13]

/-- The second layer's sums. -/
theorem pay5_at (h g b w b') (i : Fin 2048) (j : Fin 128) : k0_pay5 (F := Ideal) h g b w b' (ix2 i j)
    = lin (bnr (mx h) (rw1 g) (rw1 b)) (mx w) (rw1 b') i j := by
  unfold lin bnr var mean
  pointwise [k0_pay5]
/-- The same for the second encoder. -/
theorem pay14_at (h g b w b') (i : Fin 2048) (j : Fin 128) : k0_pay14 (F := Ideal) h g b w b' (ix2 i j)
    = lin (bnr (mx h) (rw1 g) (rw1 b)) (mx w) (rw1 b') i j := by
  unfold lin bnr var mean
  pointwise [k0_pay14]

/-- The third layer's sums. -/
theorem pay8_at (h g b w b') (i : Fin 2048) (j : Fin 64) : k0_pay8 (F := Ideal) h (k0_pay6 g) (k0_pay7 b) w b' (ix2 i j)
    = lin (bnr (mx h) (rw1 g) (rw1 b)) (mx w) (rw1 b') i j := by
  unfold lin bnr var mean
  pointwise [k0_pay8, k0_pay6, k0_pay7]
/-- The same for the second encoder. -/
theorem pay17_at (h g b w b') (i : Fin 2048) (j : Fin 64) : k0_pay17 (F := Ideal) h (k0_pay15 g) (k0_pay16 b) w b' (ix2 i j)
    = lin (bnr (mx h) (rw1 g) (rw1 b)) (mx w) (rw1 b') i j := by
  unfold lin bnr var mean
  pointwise [k0_pay17, k0_pay15, k0_pay16]

/-- The last normalisation, of sums `y` with their mean and their squares' sum. -/
theorem pay2_at (h g b w b' g2 e2) (i : Fin 2048) (j : Fin 64) :
    k0_pay2 (F := Ideal) (k0_pay8 h g b w b') (k0_pay9 g2) (k0_pay10 e2) (k0_pay11 h g b w b') (k0_pay12 h g b w b') (ix2 i j)
      = bnr (mx (k0_pay8 h g b w b')) (rw1 g2) (rw1 e2) i j := by
  unfold bnr var mean
  pointwise [k0_pay2, k0_pay9, k0_pay10, k0_pay11, k0_pay12]
/-- The same for the second encoder. -/
theorem pay3_at (h g b w b' g2 e2) (i : Fin 2048) (j : Fin 64) :
    k0_pay3 (F := Ideal) (k0_pay17 h g b w b') (k0_pay18 g2) (k0_pay19 e2) (k0_pay20 h g b w b') (k0_pay21 h g b w b') (ix2 i j)
      = bnr (mx (k0_pay17 h g b w b')) (rw1 g2) (rw1 e2) i j := by
  unfold bnr var mean
  pointwise [k0_pay3, k0_pay18, k0_pay19, k0_pay20, k0_pay21]

/-- An encoder's result. -/
theorem enc1_at (h g b w b' g' e' w2 b2 g2 e2) (i : Fin 2048) (j : Fin 64) : enc1 (F := Ideal) h g b w b' g' e' w2 b2 g2 e2 (ix2 i j)
    = enc (mx h) (rw1 g) (rw1 b) (mx w) (rw1 b') (rw1 g') (rw1 e') (mx w2) (rw1 b2) (rw1 g2) (rw1 e2) i j := by
  unfold enc1 enc
  refine (pay2_at _ _ _ _ _ _ _ i j).trans ?_
  have e1 : mx (k0_pay5 (F := Ideal) h g b w b') = lin (bnr (mx h) (rw1 g) (rw1 b)) (mx w) (rw1 b') := funext fun i => funext fun j => pay5_at _ _ _ _ _ i j
  have e2 : mx (k0_pay8 (F := Ideal) (k0_pay5 h g b w b') (k0_pay6 g') (k0_pay7 e') w2 b2) = lin (bnr (mx (k0_pay5 (F := Ideal) h g b w b')) (rw1 g') (rw1 e')) (mx w2) (rw1 b2) :=
    funext fun i => funext fun j => pay8_at _ _ _ _ _ i j
  rw [e2, e1]
/-- The second encoder's result. -/
theorem enc2_at (h g b w b' g' e' w2 b2 g2 e2) (i : Fin 2048) (j : Fin 64) : enc2 (F := Ideal) h g b w b' g' e' w2 b2 g2 e2 (ix2 i j)
    = enc (mx h) (rw1 g) (rw1 b) (mx w) (rw1 b') (rw1 g') (rw1 e') (mx w2) (rw1 b2) (rw1 g2) (rw1 e2) i j := by
  unfold enc2 enc
  refine (pay3_at _ _ _ _ _ _ _ i j).trans ?_
  have e1 : mx (k0_pay14 (F := Ideal) h g b w b') = lin (bnr (mx h) (rw1 g) (rw1 b)) (mx w) (rw1 b') := funext fun i => funext fun j => pay14_at _ _ _ _ _ i j
  have e2 : mx (k0_pay17 (F := Ideal) (k0_pay14 h g b w b') (k0_pay15 g') (k0_pay16 e') w2 b2) = lin (bnr (mx (k0_pay14 (F := Ideal) h g b w b')) (rw1 g') (rw1 e')) (mx w2) (rw1 b2) :=
    funext fun i => funext fun j => pay17_at _ _ _ _ _ i j
  rw [e2, e1]

/-- A row block's share of a logit. -/
def part (A C : Vec Ideal S256x2048 .f32) (h : Vec Ideal S2048x64 .f32) (W : EReal) (r : Vec Ideal S256x64 .f32) (w : Vec Ideal S2x256x64 .f32) (s : Fin 2) : EReal :=
  ∑ i : Fin 256, ∑ k : Fin 64, att (mx A) (mx C) (mx h) W (mx r) i k * w (ix3 s i k)

/-- A step's first logit: what was there and the two graphs' shares. -/
theorem attn0_at (W A B C h1 r1 w1 h2 r2 w2 a) : attn0 (F := Ideal) W A B C h1 r1 w1 h2 r2 w2 a
    = a + part A C h1 W r1 w1 0 + part B C h2 W r2 w2 0 := by
  unfold attn0 part att; simp only [← msk_s]
  pointwise [k0_pay34, k0_pay27, k0_pay23, k0_pay24, k0_pay30, k0_pay31, k0_pay32, k0_pay33, k0_pay29, k0_pay22, k0_pay25, k0_pay26, lift]
/-- A step's second logit. -/
theorem attn1_at (W A B C h1 r1 w1 h2 r2 w2 a) : attn1 (F := Ideal) W A B C h1 r1 w1 h2 r2 w2 a
    = a + part A C h1 W r1 w1 1 + part B C h2 W r2 w2 1 := by
  unfold attn1 part att; simp only [← msk_s]
  pointwise [k0_pay35, k0_pay28, k0_pay23, k0_pay24, k0_pay30, k0_pay31, k0_pay32, k0_pay33, k0_pay29, k0_pay22, k0_pay25, k0_pay26, lift]

/-- The softmax of the two logits in the first two lanes. -/
theorem pay4_at0 (a b c d) : k0_pay4 (F := Ideal) a b c d (ix2 0 0) = soft (a + b) (c + d) := by
  unfold soft
  pointwise [k0_pay4]
  rfl
/-- The softmax's second lane. -/
theorem pay4_at1 (a b c d) : k0_pay4 (F := Ideal) a b c d (ix2 0 1) = soft (c + d) (a + b) := by
  unfold soft
  pointwise [k0_pay4]
  rw [max_comm (c + d) (a + b), add_comm (Ideal.exp (c + d - _))]
  rfl

end Cert.KernelIdeal.Hand
end
-- ==== Proof.V.Blk.lean ====
module
public import proofs.«01_k».proof.Proof.KI.Traj
public import proofs.«01_k».proof.Proof.V.Kern
public import Idealize.ShloMosaic.Lib.Pipeline.ValueKit
public import Idealize.ShloMosaic.Lib.Claim

@[expose] public section
set_option maxRecDepth 16384
noncomputable section

/-! The blocks that the kernel's windows stage, read at an index from the arguments. -/
namespace Cert.KernelIdeal.Hand
open Cert.KernelIdeal Cert.KernelIdeal.Gen
open Idealize.ShloMosaic Idealize.ShloMosaic.TcCoe Idealize.ShloMosaic.Tactic
open Cert.Val

variable (m : (ℓ : Loc nD τ sig) → Buf (Elt Ideal) ℓ) (c : Dev nD)

/-! Where each window stands at a grid point. -/
theorem idx_0 : ∀ t : Fin cfg0.N, win0_0.index t = ![min t.val 3, 0] := by decide +kernel
theorem idx_1 : ∀ t : Fin cfg0.N, win0_1.index t = ![min t.val 3, 1] := by decide +kernel
theorem idx_2 : ∀ t : Fin cfg0.N, win0_2.index t = ![min (t.val - 4) 3, 0] := by decide +kernel
theorem idx_3 : ∀ t : Fin cfg0.N, win0_3.index t = ![min (t.val - 4) 3, 1] := by decide +kernel
theorem idx_4 : ∀ t : Fin cfg0.N, win0_4.index t = ![0, 0] := by decide +kernel
theorem idx_17 : ∀ t : Fin cfg0.N, win0_17.index t = ![0, 0] := by decide +kernel
theorem idx_5 : ∀ t : Fin cfg0.N, win0_5.index t = ![0, 1] := by decide +kernel
theorem idx_18 : ∀ t : Fin cfg0.N, win0_18.index t = ![0, 1] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![0, 0] := by decide +kernel
theorem idx_16 : ∀ t : Fin cfg0.N, win0_16.index t = ![0, 0] := by decide +kernel
theorem idx_19 : ∀ t : Fin cfg0.N, win0_19.index t = ![0, 0] := by decide +kernel
theorem idx_20 : ∀ t : Fin cfg0.N, win0_20.index t = ![0, 0] := by decide +kernel
theorem idx_21 : ∀ t : Fin cfg0.N, win0_21.index t = ![0, 0] := by decide +kernel
theorem idx_22 : ∀ t : Fin cfg0.N, win0_22.index t = ![0, 0] := by decide +kernel
theorem idx_23 : ∀ t : Fin cfg0.N, win0_23.index t = ![0, 0] := by decide +kernel
theorem idx_24 : ∀ t : Fin cfg0.N, win0_24.index t = ![0, 0] := by decide +kernel
theorem idx_25 : ∀ t : Fin cfg0.N, win0_25.index t = ![0, 0] := by decide +kernel
theorem idx_26 : ∀ t : Fin cfg0.N, win0_26.index t = ![0, 0] := by decide +kernel
theorem idx_27 : ∀ t : Fin cfg0.N, win0_27.index t = ![0, 0] := by decide +kernel
theorem idx_28 : ∀ t : Fin cfg0.N, win0_28.index t = ![0, 0] := by decide +kernel
theorem idx_29 : ∀ t : Fin cfg0.N, win0_29.index t = ![0, 0] := by decide +kernel
theorem idx_32 : ∀ t : Fin cfg0.N, win0_32.index t = ![0, 0] := by decide +kernel
theorem idx_33 : ∀ t : Fin cfg0.N, win0_33.index t = ![0] := by decide +kernel
theorem idx_30 : ∀ t : Fin cfg0.N, win0_30.index t = ![0, min (t.val - 8) 7, 0] := by decide +kernel
theorem idx_31 : ∀ t : Fin cfg0.N, win0_31.index t = ![0, 8 + min (t.val - 8) 7, 0] := by decide +kernel

/-! The row blocks of the inputs and the halves of the first weights. -/
theorem blk_0 (t : Fin cfg0.N) (i : Fin 512) (k : Fin 1024) : (iblk m c 0 t : Vec Ideal S512x1024 .f32) (ix2 i k)
    = m ((c.tc : Thread nD τ).loc main_arg0) (ix2 ⟨512 * min t.val 3 + i.val, by have := i.isLt; omega⟩ ⟨0 + k.val, by have := k.isLt; omega⟩) := by
  blk_ext [iblk, V, idx_0 t]
theorem blk_1 (t : Fin cfg0.N) (i : Fin 512) (k : Fin 1024) : (iblk m c 1 t : Vec Ideal S512x1024 .f32) (ix2 i k)
    = m ((c.tc : Thread nD τ).loc main_arg0) (ix2 ⟨512 * min t.val 3 + i.val, by have := i.isLt; omega⟩ ⟨1024 + k.val, by have := k.isLt; omega⟩) := by
  blk_ext [iblk, V, idx_1 t]
theorem blk_2 (t : Fin cfg0.N) (i : Fin 512) (k : Fin 1024) : (iblk m c 2 t : Vec Ideal S512x1024 .f32) (ix2 i k)
    = m ((c.tc : Thread nD τ).loc main_arg1) (ix2 ⟨512 * min (t.val - 4) 3 + i.val, by have := i.isLt; omega⟩ ⟨0 + k.val, by have := k.isLt; omega⟩) := by
  blk_ext [iblk, V, idx_2 t]
theorem blk_3 (t : Fin cfg0.N) (i : Fin 512) (k : Fin 1024) : (iblk m c 3 t : Vec Ideal S512x1024 .f32) (ix2 i k)
    = m ((c.tc : Thread nD τ).loc main_arg1) (ix2 ⟨512 * min (t.val - 4) 3 + i.val, by have := i.isLt; omega⟩ ⟨1024 + k.val, by have := k.isLt; omega⟩) := by
  blk_ext [iblk, V, idx_3 t]
theorem blk_4 (t : Fin cfg0.N) (i : Fin 256) (k : Fin 1024) : (iblk m c 4 t : Vec Ideal S256x1024 .f32) (ix2 i k)
    = m ((c.tc : Thread nD τ).loc main_arg4) (ix2 i ⟨0 + k.val, by have := k.isLt; omega⟩) := by
  blk_ext [iblk, V, idx_4 t]
theorem blk_5 (t : Fin cfg0.N) (i : Fin 256) (k : Fin 1024) : (iblk m c 5 t : Vec Ideal S256x1024 .f32) (ix2 i k)
    = m ((c.tc : Thread nD τ).loc main_arg4) (ix2 i ⟨1024 + k.val, by have := k.isLt; omega⟩) := by
  blk_ext [iblk, V, idx_5 t]
theorem blk_17 (t : Fin cfg0.N) (i : Fin 256) (k : Fin 1024) : (iblk m c 17 t : Vec Ideal S256x1024 .f32) (ix2 i k)
    = m ((c.tc : Thread nD τ).loc main_arg16) (ix2 i ⟨0 + k.val, by have := k.isLt; omega⟩) := by
  blk_ext [iblk, V, idx_17 t]
theorem blk_18 (t : Fin cfg0.N) (i : Fin 256) (k : Fin 1024) : (iblk m c 18 t : Vec Ideal S256x1024 .f32) (ix2 i k)
    = m ((c.tc : Thread nD τ).loc main_arg16) (ix2 i ⟨1024 + k.val, by have := k.isLt; omega⟩) := by
  blk_ext [iblk, V, idx_18 t]

/-! The whole matrices and the vectors. -/
theorem blk_9 (t : Fin cfg0.N) (i : Fin 128) (k : Fin 256) : (iblk m c 9 t : Vec Ideal S128x256 .f32) (ix2 i k)
    = m ((c.tc : Thread nD τ).loc main_arg8) (ix2 i k) := by
  blk_ext [iblk, V, idx_9 t]
theorem blk_13 (t : Fin cfg0.N) (i : Fin 64) (k : Fin 128) : (iblk m c 13 t : Vec Ideal S64x128 .f32) (ix2 i k)
    = m ((c.tc : Thread nD τ).loc main_arg12) (ix2 i k) := by
  blk_ext [iblk, V, idx_13 t]
theorem blk_22 (t : Fin cfg0.N) (i : Fin 128) (k : Fin 256) : (iblk m c 22 t : Vec Ideal S128x256 .f32) (ix2 i k)
    = m ((c.tc : Thread nD τ).loc main_arg20) (ix2 i k) := by
  blk_ext [iblk, V, idx_22 t]
theorem blk_26 (t : Fin cfg0.N) (i : Fin 64) (k : Fin 128) : (iblk m c 26 t : Vec Ideal S64x128 .f32) (ix2 i k)
    = m ((c.tc : Thread nD τ).loc main_arg24) (ix2 i k) := by
  blk_ext [iblk, V, idx_26 t]
theorem ent_1 : V m c main_v1 = shapeCast S1x256 (m ((c.tc : Thread nD τ).loc main_arg5)) shapeCasts_S256_S1x256 := by
  show StableHlo.after (hostOps0 : List (HloOp τ sig (Elt Ideal))) (fun b => m (c, b)) _ = _
  after_results
  rfl
theorem blk_6 (t : Fin cfg0.N) (k : Fin 256) : (iblk m c 6 t : Vec Ideal S1x256 .f32) (ix2 0 k)
    = m ((c.tc : Thread nD τ).loc main_arg5) (ix1 k) := by
  have e : (iblk m c 6 t : Vec Ideal S1x256 .f32) (ix2 0 k) = V m c main_v1 (ix2 0 k) := by blk_ext [iblk, idx_6 t]
  rw [e, ent_1]
  pointwise
theorem ent_2 : V m c main_v2 = shapeCast S1x256 (m ((c.tc : Thread nD τ).loc main_arg6)) shapeCasts_S256_S1x256 := by
  show StableHlo.after (hostOps0 : List (HloOp τ sig (Elt Ideal))) (fun b => m (c, b)) _ = _
  after_results
  rfl
theorem blk_7 (t : Fin cfg0.N) (k : Fin 256) : (iblk m c 7 t : Vec Ideal S1x256 .f32) (ix2 0 k)
    = m ((c.tc : Thread nD τ).loc main_arg6) (ix1 k) := by
  have e : (iblk m c 7 t : Vec Ideal S1x256 .f32) (ix2 0 k) = V m c main_v2 (ix2 0 k) := by blk_ext [iblk, idx_7 t]
  rw [e, ent_2]
  pointwise
theorem ent_3 : V m c main_v3 = shapeCast S1x256 (m ((c.tc : Thread nD τ).loc main_arg7)) shapeCasts_S256_S1x256 := by
  show StableHlo.after (hostOps0 : List (HloOp τ sig (Elt Ideal))) (fun b => m (c, b)) _ = _
  after_results
  rfl
theorem blk_8 (t : Fin cfg0.N) (k : Fin 256) : (iblk m c 8 t : Vec Ideal S1x256 .f32) (ix2 0 k)
    = m ((c.tc : Thread nD τ).loc main_arg7) (ix1 k) := by
  have e : (iblk m c 8 t : Vec Ideal S1x256 .f32) (ix2 0 k) = V m c main_v3 (ix2 0 k) := by blk_ext [iblk, idx_8 t]
  rw [e, ent_3]
  pointwise
theorem ent_4 : V m c main_v4 = shapeCast S1x128 (m ((c.tc : Thread nD τ).loc main_arg9)) shapeCasts_S128_S1x128 := by
  show StableHlo.after (hostOps0 : List (HloOp τ sig (Elt Ideal))) (fun b => m (c, b)) _ = _
  after_results
  rfl
theorem blk_10 (t : Fin cfg0.N) (k : Fin 128) : (iblk m c 10 t : Vec Ideal S1x128 .f32) (ix2 0 k)
    = m ((c.tc : Thread nD τ).loc main_arg9) (ix1 k) := by
  have e : (iblk m c 10 t : Vec Ideal S1x128 .f32) (ix2 0 k) = V m c main_v4 (ix2 0 k) := by blk_ext [iblk, idx_10 t]
  rw [e, ent_4]
  pointwise
theorem ent_5 : V m c main_v5 = shapeCast S1x128 (m ((c.tc : Thread nD τ).loc main_arg10)) shapeCasts_S128_S1x128 := by
  show StableHlo.after (hostOps0 : List (HloOp τ sig (Elt Ideal))) (fun b => m (c, b)) _ = _
  after_results
  rfl
theorem blk_11 (t : Fin cfg0.N) (k : Fin 128) : (iblk m c 11 t : Vec Ideal S1x128 .f32) (ix2 0 k)
    = m ((c.tc : Thread nD τ).loc main_arg10) (ix1 k) := by
  have e : (iblk m c 11 t : Vec Ideal S1x128 .f32) (ix2 0 k) = V m c main_v5 (ix2 0 k) := by blk_ext [iblk, idx_11 t]
  rw [e, ent_5]
  pointwise
theorem ent_6 : V m c main_v6 = shapeCast S1x128 (m ((c.tc : Thread nD τ).loc main_arg11)) shapeCasts_S128_S1x128 := by
  show StableHlo.after (hostOps0 : List (HloOp τ sig (Elt Ideal))) (fun b => m (c, b)) _ = _
  after_results
  rfl
theorem blk_12 (t : Fin cfg0.N) (k : Fin 128) : (iblk m c 12 t : Vec Ideal S1x128 .f32) (ix2 0 k)
    = m ((c.tc : Thread nD τ).loc main_arg11) (ix1 k) := by
  have e : (iblk m c 12 t : Vec Ideal S1x128 .f32) (ix2 0 k) = V m c main_v6 (ix2 0 k) := by blk_ext [iblk, idx_12 t]
  rw [e, ent_6]
  pointwise
theorem ent_7 : V m c main_v7 = shapeCast S1x64 (m ((c.tc : Thread nD τ).loc main_arg13)) shapeCasts_S64_S1x64 := by
  show StableHlo.after (hostOps0 : List (HloOp τ sig (Elt Ideal))) (fun b => m (c, b)) _ = _
  after_results
  rfl
theorem blk_14 (t : Fin cfg0.N) (k : Fin 64) : (iblk m c 14 t : Vec Ideal S1x64 .f32) (ix2 0 k)
    = m ((c.tc : Thread nD τ).loc main_arg13) (ix1 k) := by
  have e : (iblk m c 14 t : Vec Ideal S1x64 .f32) (ix2 0 k) = V m c main_v7 (ix2 0 k) := by blk_ext [iblk, idx_14 t]
  rw [e, ent_7]
  pointwise
theorem ent_8 : V m c main_v8 = shapeCast S1x64 (m ((c.tc : Thread nD τ).loc main_arg14)) shapeCasts_S64_S1x64 := by
  show StableHlo.after (hostOps0 : List (HloOp τ sig (Elt Ideal))) (fun b => m (c, b)) _ = _
  after_results
  rfl
theorem blk_15 (t : Fin cfg0.N) (k : Fin 64) : (iblk m c 15 t : Vec Ideal S1x64 .f32) (ix2 0 k)
    = m ((c.tc : Thread nD τ).loc main_arg14) (ix1 k) := by
  have e : (iblk m c 15 t : Vec Ideal S1x64 .f32) (ix2 0 k) = V m c main_v8 (ix2 0 k) := by blk_ext [iblk, idx_15 t]
  rw [e, ent_8]
  pointwise
theorem ent_9 : V m c main_v9 = shapeCast S1x64 (m ((c.tc : Thread nD τ).loc main_arg15)) shapeCasts_S64_S1x64 := by
  show StableHlo.after (hostOps0 : List (HloOp τ sig (Elt Ideal))) (fun b => m (c, b)) _ = _
  after_results
  rfl
theorem blk_16 (t : Fin cfg0.N) (k : Fin 64) : (iblk m c 16 t : Vec Ideal S1x64 .f32) (ix2 0 k)
    = m ((c.tc : Thread nD τ).loc main_arg15) (ix1 k) := by
  have e : (iblk m c 16 t : Vec Ideal S1x64 .f32) (ix2 0 k) = V m c main_v9 (ix2 0 k) := by blk_ext [iblk, idx_16 t]
  rw [e, ent_9]
  pointwise
theorem ent_10 : V m c main_v10 = shapeCast S1x256 (m ((c.tc : Thread nD τ).loc main_arg17)) shapeCasts_S256_S1x256 := by
  show StableHlo.after (hostOps0 : List (HloOp τ sig (Elt Ideal))) (fun b => m (c, b)) _ = _
  after_results
  rfl
theorem blk_19 (t : Fin cfg0.N) (k : Fin 256) : (iblk m c 19 t : Vec Ideal S1x256 .f32) (ix2 0 k)
    = m ((c.tc : Thread nD τ).loc main_arg17) (ix1 k) := by
  have e : (iblk m c 19 t : Vec Ideal S1x256 .f32) (ix2 0 k) = V m c main_v10 (ix2 0 k) := by blk_ext [iblk, idx_19 t]
  rw [e, ent_10]
  pointwise
theorem ent_11 : V m c main_v11 = shapeCast S1x256 (m ((c.tc : Thread nD τ).loc main_arg18)) shapeCasts_S256_S1x256 := by
  show StableHlo.after (hostOps0 : List (HloOp τ sig (Elt Ideal))) (fun b => m (c, b)) _ = _
  after_results
  rfl
theorem blk_20 (t : Fin cfg0.N) (k : Fin 256) : (iblk m c 20 t : Vec Ideal S1x256 .f32) (ix2 0 k)
    = m ((c.tc : Thread nD τ).loc main_arg18) (ix1 k) := by
  have e : (iblk m c 20 t : Vec Ideal S1x256 .f32) (ix2 0 k) = V m c main_v11 (ix2 0 k) := by blk_ext [iblk, idx_20 t]
  rw [e, ent_11]
  pointwise
theorem ent_12 : V m c main_v12 = shapeCast S1x256 (m ((c.tc : Thread nD τ).loc main_arg19)) shapeCasts_S256_S1x256 := by
  show StableHlo.after (hostOps0 : List (HloOp τ sig (Elt Ideal))) (fun b => m (c, b)) _ = _
  after_results
  rfl
theorem blk_21 (t : Fin cfg0.N) (k : Fin 256) : (iblk m c 21 t : Vec Ideal S1x256 .f32) (ix2 0 k)
    = m ((c.tc : Thread nD τ).loc main_arg19) (ix1 k) := by
  have e : (iblk m c 21 t : Vec Ideal S1x256 .f32) (ix2 0 k) = V m c main_v12 (ix2 0 k) := by blk_ext [iblk, idx_21 t]
  rw [e, ent_12]
  pointwise
theorem ent_13 : V m c main_v13 = shapeCast S1x128 (m ((c.tc : Thread nD τ).loc main_arg21)) shapeCasts_S128_S1x128 := by
  show StableHlo.after (hostOps0 : List (HloOp τ sig (Elt Ideal))) (fun b => m (c, b)) _ = _
  after_results
  rfl
theorem blk_23 (t : Fin cfg0.N) (k : Fin 128) : (iblk m c 23 t : Vec Ideal S1x128 .f32) (ix2 0 k)
    = m ((c.tc : Thread nD τ).loc main_arg21) (ix1 k) := by
  have e : (iblk m c 23 t : Vec Ideal S1x128 .f32) (ix2 0 k) = V m c main_v13 (ix2 0 k) := by blk_ext [iblk, idx_23 t]
  rw [e, ent_13]
  pointwise
theorem ent_14 : V m c main_v14 = shapeCast S1x128 (m ((c.tc : Thread nD τ).loc main_arg22)) shapeCasts_S128_S1x128 := by
  show StableHlo.after (hostOps0 : List (HloOp τ sig (Elt Ideal))) (fun b => m (c, b)) _ = _
  after_results
  rfl
theorem blk_24 (t : Fin cfg0.N) (k : Fin 128) : (iblk m c 24 t : Vec Ideal S1x128 .f32) (ix2 0 k)
    = m ((c.tc : Thread nD τ).loc main_arg22) (ix1 k) := by
  have e : (iblk m c 24 t : Vec Ideal S1x128 .f32) (ix2 0 k) = V m c main_v14 (ix2 0 k) := by blk_ext [iblk, idx_24 t]
  rw [e, ent_14]
  pointwise
theorem ent_15 : V m c main_v15 = shapeCast S1x128 (m ((c.tc : Thread nD τ).loc main_arg23)) shapeCasts_S128_S1x128 := by
  show StableHlo.after (hostOps0 : List (HloOp τ sig (Elt Ideal))) (fun b => m (c, b)) _ = _
  after_results
  rfl
theorem blk_25 (t : Fin cfg0.N) (k : Fin 128) : (iblk m c 25 t : Vec Ideal S1x128 .f32) (ix2 0 k)
    = m ((c.tc : Thread nD τ).loc main_arg23) (ix1 k) := by
  have e : (iblk m c 25 t : Vec Ideal S1x128 .f32) (ix2 0 k) = V m c main_v15 (ix2 0 k) := by blk_ext [iblk, idx_25 t]
  rw [e, ent_15]
  pointwise
theorem ent_16 : V m c main_v16 = shapeCast S1x64 (m ((c.tc : Thread nD τ).loc main_arg25)) shapeCasts_S64_S1x64 := by
  show StableHlo.after (hostOps0 : List (HloOp τ sig (Elt Ideal))) (fun b => m (c, b)) _ = _
  after_results
  rfl
theorem blk_27 (t : Fin cfg0.N) (k : Fin 64) : (iblk m c 27 t : Vec Ideal S1x64 .f32) (ix2 0 k)
    = m ((c.tc : Thread nD τ).loc main_arg25) (ix1 k) := by
  have e : (iblk m c 27 t : Vec Ideal S1x64 .f32) (ix2 0 k) = V m c main_v16 (ix2 0 k) := by blk_ext [iblk, idx_27 t]
  rw [e, ent_16]
  pointwise
theorem ent_17 : V m c main_v17 = shapeCast S1x64 (m ((c.tc : Thread nD τ).loc main_arg26)) shapeCasts_S64_S1x64 := by
  show StableHlo.after (hostOps0 : List (HloOp τ sig (Elt Ideal))) (fun b => m (c, b)) _ = _
  after_results
  rfl
theorem blk_28 (t : Fin cfg0.N) (k : Fin 64) : (iblk m c 28 t : Vec Ideal S1x64 .f32) (ix2 0 k)
    = m ((c.tc : Thread nD τ).loc main_arg26) (ix1 k) := by
  have e : (iblk m c 28 t : Vec Ideal S1x64 .f32) (ix2 0 k) = V m c main_v17 (ix2 0 k) := by blk_ext [iblk, idx_28 t]
  rw [e, ent_17]
  pointwise
theorem ent_18 : V m c main_v18 = shapeCast S1x64 (m ((c.tc : Thread nD τ).loc main_arg27)) shapeCasts_S64_S1x64 := by
  show StableHlo.after (hostOps0 : List (HloOp τ sig (Elt Ideal))) (fun b => m (c, b)) _ = _
  after_results
  rfl
theorem blk_29 (t : Fin cfg0.N) (k : Fin 64) : (iblk m c 29 t : Vec Ideal S1x64 .f32) (ix2 0 k)
    = m ((c.tc : Thread nD τ).loc main_arg27) (ix1 k) := by
  have e : (iblk m c 29 t : Vec Ideal S1x64 .f32) (ix2 0 k) = V m c main_v18 (ix2 0 k) := by blk_ext [iblk, idx_29 t]
  rw [e, ent_18]
  pointwise

/-! The classifier's weights by row blocks, the two scalars and the two biases. -/
theorem ent_0 : V m c main_v0 = shapeCast S2x4096x64 (m ((c.tc : Thread nD τ).loc main_arg31)) shapeCasts_S2x262144_S2x4096x64 := by
  show StableHlo.after (hostOps0 : List (HloOp τ sig (Elt Ideal))) (fun b => m (c, b)) _ = _
  after_results
  rfl
theorem blk_30 (t : Fin cfg0.N) (s : Fin 2) (i : Fin 256) (k : Fin 64) : (iblk m c 30 t : Vec Ideal S2x256x64 .f32) (ix3 s i k)
    = m ((c.tc : Thread nD τ).loc main_arg31) (ix2 s ⟨(256 * min (t.val - 8) 7 + i.val) * 64 + k.val, by have := i.isLt; have := k.isLt; omega⟩) := by
  have e : (iblk m c 30 t : Vec Ideal S2x256x64 .f32) (ix3 s i k) = V m c main_v0 (ix3 s ⟨256 * min (t.val - 8) 7 + i.val, by have := i.isLt; omega⟩ k) := by blk_ext [iblk, idx_30 t]
  rw [e, ent_0]
  pointwise
  blk_ext
theorem blk_31 (t : Fin cfg0.N) (s : Fin 2) (i : Fin 256) (k : Fin 64) : (iblk m c 31 t : Vec Ideal S2x256x64 .f32) (ix3 s i k)
    = m ((c.tc : Thread nD τ).loc main_arg31) (ix2 s ⟨131072 + ((256 * min (t.val - 8) 7 + i.val) * 64 + k.val), by have := i.isLt; have := k.isLt; omega⟩) := by
  have e : (iblk m c 31 t : Vec Ideal S2x256x64 .f32) (ix3 s i k) = V m c main_v0 (ix3 s ⟨2048 + (256 * min (t.val - 8) 7 + i.val), by have := i.isLt; omega⟩ k) := by blk_ext [iblk, idx_31 t]
  rw [e, ent_0]
  pointwise
  blk_ext
theorem blk_32 (t : Fin cfg0.N) : (iblk m c 32 t : Vec Ideal S1x1 .f32) (ix2 0 0) = m ((c.tc : Thread nD τ).loc main_arg28) (ix2 0 0) := by
  blk_ext [iblk, V, idx_32 t]
theorem blk_33 (t : Fin cfg0.N) (s : Fin 2) : (iblk m c 33 t : Vec Ideal S2 .f32) (ix1 s) = m ((c.tc : Thread nD τ).loc main_arg32) (ix1 s) := by
  blk_ext [iblk, V, idx_33 t]

end Cert.KernelIdeal.Hand
end
-- ==== Proof.V.Fin.lean ====
module
public import proofs.«01_k».proof.Proof.V.Blk

@[expose] public section
set_option maxRecDepth 16384
noncomputable section

/-! What the kernel computes, from the arguments: the encoders, the attention's row blocks, the logits and the softmax. -/
namespace Cert.KernelIdeal.Hand
open Cert.KernelIdeal Cert.KernelIdeal.Gen
open Idealize.ShloMosaic Idealize.ShloMosaic.TcCoe Idealize.ShloMosaic.Tactic
open Cert.Val

variable (m : (ℓ : Loc nD τ sig) → Buf (Elt Ideal) ℓ) (c : Dev nD)

/-- A vector as a function of its place. -/
abbrev vc {b : ℕ} (x : (⟨1, ![b]⟩ : Shape).Idx → EReal) : Fin b → EReal := fun j => x (ix1 j)

/-! ## Encoder 1 -/

/-- The first layer's sums of encoder 1, of the arguments. -/
def first1 : Fin 2048 → Fin 256 → EReal := lin (mx (m ((c.tc : Thread nD τ).loc main_arg0))) (mx (m ((c.tc : Thread nD τ).loc main_arg4))) (vc (m ((c.tc : Thread nD τ).loc main_arg5)))
/-- Encoder 1's result, of the arguments. -/
def kfeat1 : Fin 2048 → Fin 64 → EReal :=
  enc (first1 m c) (vc (m ((c.tc : Thread nD τ).loc main_arg6))) (vc (m ((c.tc : Thread nD τ).loc main_arg7))) (mx (m ((c.tc : Thread nD τ).loc main_arg8))) (vc (m ((c.tc : Thread nD τ).loc main_arg9))) (vc (m ((c.tc : Thread nD τ).loc main_arg10))) (vc (m ((c.tc : Thread nD τ).loc main_arg11)))
    (mx (m ((c.tc : Thread nD τ).loc main_arg12))) (vc (m ((c.tc : Thread nD τ).loc main_arg13))) (vc (m ((c.tc : Thread nD τ).loc main_arg14))) (vc (m ((c.tc : Thread nD τ).loc main_arg15)))

/-- All rows of the sums, computed by blocks of 512 in two halves, are the layer's. -/
theorem all1_at : mx (all1 (F := Ideal) m c) = first1 m c := by
  funext i j
  have hi := i.isLt; have hN : cfg0.N = 16 := N_0
  have ht : (tm (i.val / 512)).val = i.val / 512 := Nat.mod_eq_of_lt (by omega)
  have hl : loc512 (ix2 i j) = ix2 (⟨i.val % 512, Nat.mod_lt _ (by decide)⟩ : Fin 512) j := funext fun a => Fin.ext (by fin_cases a <;> rfl)
  show sum1 m c (tm (i.val / 512)) (loc512 (ix2 i j)) = _
  rw [hl]; unfold sum1 first1 lin
  refine (pay1_at _ _ _ _ _ _ _).trans ?_
  rw [sum_halves]
  refine congrArg₂ (· + ·) (congrArg₂ (· + ·) (Finset.sum_congr rfl fun x _ => ?_) (Finset.sum_congr rfl fun x _ => ?_)) ?_
  · refine congrArg₂ (· * ·) ((blk_0 m c _ _ _).trans (congrArg (m ((c.tc : Thread nD τ).loc main_arg0)) ?_)) ((blk_4 m c _ _ _).trans (congrArg (m ((c.tc : Thread nD τ).loc main_arg4)) ?_))
    · exact congrArg₂ ix2 (Fin.ext (by show 512 * min (tm (i.val / 512)).val 3 + i.val % 512 = i.val; rw [ht]; omega)) (Fin.ext (by show 0 + x.val = x.val; omega))
    · exact congrArg₂ ix2 rfl (Fin.ext (by show 0 + x.val = x.val; omega))
  · refine congrArg₂ (· * ·) ((blk_1 m c _ _ _).trans (congrArg (m ((c.tc : Thread nD τ).loc main_arg0)) ?_)) (blk_5 m c _ _ _)
    exact congrArg₂ ix2 (Fin.ext (by show 512 * min (tm (i.val / 512)).val 3 + i.val % 512 = i.val; rw [ht]; omega)) rfl
  · exact blk_6 m c _ j

/-- The encoder's result is the arguments'. -/
theorem out1_at : mx (out1 (F := Ideal) m c) = kfeat1 m c := by
  have e : mx (out1 (F := Ideal) m c) = _ := funext fun i => funext fun j => enc1_at _ _ _ _ _ _ _ _ _ _ _ i j
  rw [e]; unfold kfeat1
  rw [all1_at m c]
  congr 1
  · exact funext fun j => blk_7 m c _ j
  · exact funext fun j => blk_8 m c _ j
  · exact funext fun i => funext fun j => blk_9 m c _ i j
  · exact funext fun j => blk_10 m c _ j
  · exact funext fun j => blk_11 m c _ j
  · exact funext fun j => blk_12 m c _ j
  · exact funext fun i => funext fun j => blk_13 m c _ i j
  · exact funext fun j => blk_14 m c _ j
  · exact funext fun j => blk_15 m c _ j
  · exact funext fun j => blk_16 m c _ j

/-! ## Encoder 2 -/

/-- The first layer's sums of encoder 2, of the arguments. -/
def first2 : Fin 2048 → Fin 256 → EReal := lin (mx (m ((c.tc : Thread nD τ).loc main_arg1))) (mx (m ((c.tc : Thread nD τ).loc main_arg16))) (vc (m ((c.tc : Thread nD τ).loc main_arg17)))
/-- Encoder 2's result, of the arguments. -/
def kfeat2 : Fin 2048 → Fin 64 → EReal :=
  enc (first2 m c) (vc (m ((c.tc : Thread nD τ).loc main_arg18))) (vc (m ((c.tc : Thread nD τ).loc main_arg19))) (mx (m ((c.tc : Thread nD τ).loc main_arg20))) (vc (m ((c.tc : Thread nD τ).loc main_arg21))) (vc (m ((c.tc : Thread nD τ).loc main_arg22))) (vc (m ((c.tc : Thread nD τ).loc main_arg23)))
    (mx (m ((c.tc : Thread nD τ).loc main_arg24))) (vc (m ((c.tc : Thread nD τ).loc main_arg25))) (vc (m ((c.tc : Thread nD τ).loc main_arg26))) (vc (m ((c.tc : Thread nD τ).loc main_arg27)))

/-- All rows of the sums, computed by blocks of 512 in two halves, are the layer's. -/
theorem all2_at : mx (all2 (F := Ideal) m c) = first2 m c := by
  funext i j
  have hi := i.isLt; have hN : cfg0.N = 16 := N_0
  have ht : (tm (4 + i.val / 512)).val = 4 + i.val / 512 := Nat.mod_eq_of_lt (by omega)
  have hl : loc512 (ix2 i j) = ix2 (⟨i.val % 512, Nat.mod_lt _ (by decide)⟩ : Fin 512) j := funext fun a => Fin.ext (by fin_cases a <;> rfl)
  show sum2 m c (tm (4 + i.val / 512)) (loc512 (ix2 i j)) = _
  rw [hl]; unfold sum2 first2 lin
  refine (pay13_at _ _ _ _ _ _ _).trans ?_
  rw [sum_halves]
  refine congrArg₂ (· + ·) (congrArg₂ (· + ·) (Finset.sum_congr rfl fun x _ => ?_) (Finset.sum_congr rfl fun x _ => ?_)) ?_
  · refine congrArg₂ (· * ·) ((blk_2 m c _ _ _).trans (congrArg (m ((c.tc : Thread nD τ).loc main_arg1)) ?_)) ((blk_17 m c _ _ _).trans (congrArg (m ((c.tc : Thread nD τ).loc main_arg16)) ?_))
    · exact congrArg₂ ix2 (Fin.ext (by show 512 * min ((tm (4 + i.val / 512)).val - 4) 3 + i.val % 512 = i.val; rw [ht]; omega)) (Fin.ext (by show 0 + x.val = x.val; omega))
    · exact congrArg₂ ix2 rfl (Fin.ext (by show 0 + x.val = x.val; omega))
  · refine congrArg₂ (· * ·) ((blk_3 m c _ _ _).trans (congrArg (m ((c.tc : Thread nD τ).loc main_arg1)) ?_)) (blk_18 m c _ _ _)
    exact congrArg₂ ix2 (Fin.ext (by show 512 * min ((tm (4 + i.val / 512)).val - 4) 3 + i.val % 512 = i.val; rw [ht]; omega)) rfl
  · exact blk_19 m c _ j

/-- The encoder's result is the arguments'. -/
theorem out2_at : mx (out2 (F := Ideal) m c) = kfeat2 m c := by
  have e : mx (out2 (F := Ideal) m c) = _ := funext fun i => funext fun j => enc2_at _ _ _ _ _ _ _ _ _ _ _ i j
  rw [e]; unfold kfeat2
  rw [all2_at m c]
  congr 1
  · exact funext fun j => blk_20 m c _ j
  · exact funext fun j => blk_21 m c _ j
  · exact funext fun i => funext fun j => blk_22 m c _ i j
  · exact funext fun j => blk_23 m c _ j
  · exact funext fun j => blk_24 m c _ j
  · exact funext fun j => blk_25 m c _ j
  · exact funext fun i => funext fun j => blk_26 m c _ i j
  · exact funext fun j => blk_27 m c _ j
  · exact funext fun j => blk_28 m c _ j
  · exact funext fun j => blk_29 m c _ j

/-! ## The attention -/

/-- Row block `n` of an encoder's result, and of the three arrays, at an index. -/
theorem rows256_at (x : Vec Ideal S2048x64 .f32) (n : Fin 8) (i : Fin 256) (k : Fin 64) :
    rows256 (F := Ideal) x n (ix2 i k) = x (ix2 ⟨256 * n.val + i.val, by have := n.isLt; have := i.isLt; omega⟩ k) := by
  refine congrArg x (funext fun a => Fin.ext ?_)
  fin_cases a
  · show 256 * n.val + 1 * i.val = 256 * n.val + i.val; omega
  · show 0 + 1 * k.val = k.val; omega
/-- A row block of array A. -/
theorem blkA_at (X) (n : Fin 8) (i : Fin 256) (k : Fin 2048) :
    blkA (F := Ideal) c X n (ix2 i k) = X (ix2 ⟨256 * n.val + i.val, by have := n.isLt; have := i.isLt; omega⟩ k) := by
  refine congrArg X (funext fun a => Fin.ext ?_)
  fin_cases a
  · show 256 * n.val + 1 * i.val = 256 * n.val + i.val; omega
  · show 0 + 1 * k.val = k.val; omega
/-- A row block of array B. -/
theorem blkB_at (X) (n : Fin 8) (i : Fin 256) (k : Fin 2048) :
    blkB (F := Ideal) c X n (ix2 i k) = X (ix2 ⟨256 * n.val + i.val, by have := n.isLt; have := i.isLt; omega⟩ k) := by
  refine congrArg X (funext fun a => Fin.ext ?_)
  fin_cases a
  · show 256 * n.val + 1 * i.val = 256 * n.val + i.val; omega
  · show 0 + 1 * k.val = k.val; omega
/-- A row block of array C. -/
theorem blkC_at (X) (n : Fin 8) (i : Fin 256) (k : Fin 2048) :
    blkC (F := Ideal) c X n (ix2 i k) = X (ix2 ⟨256 * n.val + i.val, by have := n.isLt; have := i.isLt; omega⟩ k) := by
  refine congrArg X (funext fun a => Fin.ext ?_)
  fin_cases a
  · show 256 * n.val + 1 * i.val = 256 * n.val + i.val; omega
  · show 0 + 1 * k.val = k.val; omega

/-- The attention's results of the two graphs, of the arguments. -/
def knew1 : Fin 2048 → Fin 64 → EReal := att (mx (m ((c.tc : Thread nD τ).loc main_arg2))) (mx (m ((c.tc : Thread nD τ).loc main_arg29))) (kfeat1 m c) ((m ((c.tc : Thread nD τ).loc main_arg28)) (ix2 0 0)) (kfeat1 m c)
def knew2 : Fin 2048 → Fin 64 → EReal := att (mx (m ((c.tc : Thread nD τ).loc main_arg3))) (mx (m ((c.tc : Thread nD τ).loc main_arg29))) (kfeat2 m c) ((m ((c.tc : Thread nD τ).loc main_arg28)) (ix2 0 0)) (kfeat2 m c)
/-- Row `i`'s share of logit `s` in the two graphs. -/
def share1 (s : Fin 2) (i : Fin 2048) : EReal :=
  ∑ k : Fin 64, knew1 m c i k * (m ((c.tc : Thread nD τ).loc main_arg31)) (ix2 s ⟨i.val * 64 + k.val, by have := i.isLt; have := k.isLt; omega⟩)
def share2 (s : Fin 2) (i : Fin 2048) : EReal :=
  ∑ k : Fin 64, knew2 m c i k * (m ((c.tc : Thread nD τ).loc main_arg31)) (ix2 s ⟨131072 + (i.val * 64 + k.val), by have := i.isLt; have := k.isLt; omega⟩)
/-- Block `n`'s share. -/
def blockShare (f : Fin 2048 → EReal) (n : Fin 8) : EReal := ∑ r : Fin 256, f ⟨256 * n.val + r.val, by have := n.isLt; have := r.isLt; omega⟩

/-- The attention on a row block is the attention's rows. -/
theorem att_rows (A C : Fin 2048 → Fin 2048 → EReal) (h r : Fin 2048 → Fin 64 → EReal) (W : EReal) (A' C' : Fin 256 → Fin 2048 → EReal) (r' : Fin 256 → Fin 64 → EReal)
    (e : Fin 256 → Fin 2048) (hA : ∀ i x, A' i x = A (e i) x) (hC : ∀ i x, C' i x = C (e i) x) (hr : ∀ i k, r' i k = r (e i) k) (i k) :
    att A' C' h W r' i k = att A C h W r (e i) k := by
  unfold att; simp only [hA, hC, hr]

/-- The attention's scale is the argument's one element. -/
theorem w_at (t : Fin cfg0.N) : (iblk m c 32 t : Vec Ideal S1x1 .f32) i11 = (m ((c.tc : Thread nD τ).loc main_arg28)) (ix2 0 0) := by
  have e : i11 = ix2 0 0 := funext fun a => Fin.ext (by fin_cases a <;> rfl)
  rw [e]; exact blk_32 m c t

/-- What a step adds to logit `s` for graph 1 is its row block's share. -/
theorem part1_at (n : Fin 8) (t : Fin cfg0.N) (ht : t.val = 8 + n.val) (s : Fin 2) :
    part (blkA c (V m c main_arg2) n) (blkC c (V m c main_arg29) n) (out1 m c) ((iblk m c 32 t : Vec Ideal S1x1 .f32) i11) (rows256 (out1 m c) n) (iblk m c 30 t) s
      = blockShare (share1 m c s) n := by
  unfold part blockShare share1
  refine Finset.sum_congr rfl fun i _ => Finset.sum_congr rfl fun k _ => ?_
  have hi := i.isLt; have hk := k.isLt; have hn := n.isLt
  refine congrArg₂ (· * ·) ?_ ((blk_30 m c t s i k).trans (congrArg (m ((c.tc : Thread nD τ).loc main_arg31)) (congrArg₂ ix2 rfl (Fin.ext ?_))))
  · rw [w_at m c t, out1_at m c]
    unfold knew1
    refine att_rows (mx (m ((c.tc : Thread nD τ).loc main_arg2))) (mx (m ((c.tc : Thread nD τ).loc main_arg29))) _ (kfeat1 m c) _ _ _ _ (fun i => ⟨256 * n.val + i.val, by have := i.isLt; omega⟩) (fun i x => ?_) (fun i x => ?_) (fun i k => ?_) i k
    · rw [V_main_arg2]; exact blkA_at c _ n i x
    · rw [V_main_arg29]; exact blkC_at c _ n i x
    · exact (rows256_at _ n i k).trans (congrFun (congrFun (out1_at m c) _) k)
  · show (256 * min (t.val - 8) 7 + i.val) * 64 + k.val = (256 * n.val + i.val) * 64 + k.val
    rw [ht, show min (8 + n.val - 8) 7 = n.val by omega]

/-- What a step adds to logit `s` for graph 2 is its row block's share. -/
theorem part2_at (n : Fin 8) (t : Fin cfg0.N) (ht : t.val = 8 + n.val) (s : Fin 2) :
    part (blkB c (V m c main_arg3) n) (blkC c (V m c main_arg29) n) (out2 m c) ((iblk m c 32 t : Vec Ideal S1x1 .f32) i11) (rows256 (out2 m c) n) (iblk m c 31 t) s
      = blockShare (share2 m c s) n := by
  unfold part blockShare share2
  refine Finset.sum_congr rfl fun i _ => Finset.sum_congr rfl fun k _ => ?_
  have hi := i.isLt; have hk := k.isLt; have hn := n.isLt
  refine congrArg₂ (· * ·) ?_ ((blk_31 m c t s i k).trans (congrArg (m ((c.tc : Thread nD τ).loc main_arg31)) (congrArg₂ ix2 rfl (Fin.ext ?_))))
  · rw [w_at m c t, out2_at m c]
    unfold knew2
    refine att_rows (mx (m ((c.tc : Thread nD τ).loc main_arg3))) (mx (m ((c.tc : Thread nD τ).loc main_arg29))) _ (kfeat2 m c) _ _ _ _ (fun i => ⟨256 * n.val + i.val, by have := i.isLt; omega⟩) (fun i x => ?_) (fun i x => ?_) (fun i k => ?_) i k
    · rw [V_main_arg3]; exact blkB_at c _ n i x
    · rw [V_main_arg29]; exact blkC_at c _ n i x
    · exact (rows256_at _ n i k).trans (congrFun (congrFun (out2_at m c) _) k)
  · show 131072 + ((256 * min (t.val - 8) 7 + i.val) * 64 + k.val) = 131072 + ((256 * n.val + i.val) * 64 + k.val)
    rw [ht, show min (8 + n.val - 8) 7 = n.val by omega]

/-- Logit 0 after `n` steps. -/
theorem acc0_at : ∀ n : ℕ, n ≤ 8 → acc0 (F := Ideal) m c n
    = (∑ j ∈ Finset.range n, blockShare (share1 m c 0) (bn j)) + ∑ j ∈ Finset.range n, blockShare (share2 m c 0) (bn j)
  | 0, _ => by
    show Ideal.ofBits FTy.f32 0#32 = _
    rw [Ideal.ofBits_zero_f32, Finset.sum_range_zero, Finset.sum_range_zero, add_zero]
  | n + 1, hn => by
    have hb : (tm (8 + n)).val = 8 + (bn n).val := by show (8 + n) % 16 = 8 + n % 8; omega
    show step0 m c (tm (8 + n)) (bn n) (acc0 m c n) = _
    unfold step0
    rw [attn0_at, part1_at m c (bn n) _ hb, part2_at m c (bn n) _ hb, acc0_at n (by omega), Finset.sum_range_succ, Finset.sum_range_succ]
    ac_rfl

/-- Logit 1 after `n` steps. -/
theorem acc1_at : ∀ n : ℕ, n ≤ 8 → acc1 (F := Ideal) m c n
    = (∑ j ∈ Finset.range n, blockShare (share1 m c 1) (bn j)) + ∑ j ∈ Finset.range n, blockShare (share2 m c 1) (bn j)
  | 0, _ => by
    show Ideal.ofBits FTy.f32 0#32 = _
    rw [Ideal.ofBits_zero_f32, Finset.sum_range_zero, Finset.sum_range_zero, add_zero]
  | n + 1, hn => by
    have hb : (tm (8 + n)).val = 8 + (bn n).val := by show (8 + n) % 16 = 8 + n % 8; omega
    show step1 m c (tm (8 + n)) (bn n) (acc1 m c n) = _
    unfold step1
    rw [attn1_at, part1_at m c (bn n) _ hb, part2_at m c (bn n) _ hb, acc1_at n (by omega), Finset.sum_range_succ, Finset.sum_range_succ]
    ac_rfl

/-- Logit `s`, of the arguments. -/
def klogit (s : Fin 2) : EReal := ((∑ i, share1 m c s i) + ∑ i, share2 m c s i) + (m ((c.tc : Thread nD τ).loc main_arg32)) (ix1 s)

/-- The blocks' shares make the whole sum. -/
theorem blocks_all (f : Fin 2048 → EReal) : (∑ j ∈ Finset.range 8, blockShare f (bn j)) = ∑ i, f i := by
  rw [sum_rows f, Finset.sum_range]
  refine Finset.sum_congr rfl fun n _ => ?_
  rw [show bn n.val = n from Fin.ext (Nat.mod_eq_of_lt n.isLt)]; rfl

/-- The bias is the argument's. -/
theorem bias_at (s : Fin 2) (t : Fin cfg0.N) : (iblk m c 33 t : Vec Ideal S2 .f32) (i2 s) = (m ((c.tc : Thread nD τ).loc main_arg32)) (ix1 s) := by
  have e : i2 s = ix1 s := funext fun a => Fin.ext (by fin_cases a; rfl)
  rw [e]; exact blk_33 m c t s

/-- The first logit, all steps and the bias, is `klogit`. -/
theorem logit0_at (t : Fin cfg0.N) : (acc0 (F := Ideal) m c 8 : EReal) + (iblk m c 33 t : Vec Ideal S2 .f32) (i2 0) = klogit m c 0 := by
  rw [acc0_at m c 8 le_rfl, blocks_all, blocks_all, bias_at]; rfl

/-- The second logit likewise. -/
theorem logit1_at (t : Fin cfg0.N) : (acc1 (F := Ideal) m c 8 : EReal) + (iblk m c 33 t : Vec Ideal S2 .f32) (i2 1) = klogit m c 1 := by
  rw [acc1_at m c 8 le_rfl, blocks_all, blocks_all, bias_at]; rfl

/-- The last step's result: the softmax of the two logits in the first two lanes. -/
theorem fin_at0 : fin (F := Ideal) m c (ix2 0 0) = soft (klogit m c 0) (klogit m c 1) := by
  unfold fin; rw [pay4_at0, logit0_at, logit1_at]
/-- The second lane. -/
theorem fin_at1 : fin (F := Ideal) m c (ix2 0 1) = soft (klogit m c 1) (klogit m c 0) := by
  unfold fin; rw [pay4_at1, logit0_at, logit1_at]

end Cert.KernelIdeal.Hand
end
-- ==== Proof.V.Out.lean ====
module
public import proofs.«01_k».proof.Proof.V.Fin
public import proofs.«01_k».proof.Proof.KI.Run

@[expose] public section
set_option maxRecDepth 16384
noncomputable section

/-! The result array after a run: the first two lanes of what the last step stores. -/
namespace Cert.KernelIdeal.Hand
open Cert.KernelIdeal Cert.KernelIdeal.Gen
open Idealize.ShloMosaic Idealize.ShloMosaic.TcCoe Idealize.ShloMosaic.Tactic
open Idealize.SL.Sem
open Cert.Val

variable {F : FTy → Type} [FloatOps F]
variable (m : (ℓ : Loc nD τ sig) → Buf (Elt F) ℓ) (c : Dev nD)

/-- The output window's array after the region: its one block, written back by the last point, is the array. -/
theorem arr_34 : (dats m 0 c).arrAt 34 (cfgs 0).N = (fin m c : S1x128.Idx → Elt F .f32) := by
  refine (dats m 0 c).arrAt_eq_of_after_last 34 t0_15 (by decide +kernel) _ fun j => ?_
  blk_simp
  rw [after_34]

/-- Windows that share an array are inputs. -/
theorem shared_in : ∀ w w' : Fin 35, w ≠ w' → Pipeline.arrRef spec0 w = Pipeline.arrRef spec0 w' → (cfg0.win w).isOut = false := by
  decide +kernel

/-- The result's two lanes, cut from the array. -/
theorem tail_out : Pipeline.afterTail₀ cfgs (dats m) 0 (V0 m) [hostOps1] c main_v20
    = extractStridedSlice S1x2 ![0, 0] (fin m c : S1x128.Idx → Elt F .f32) slices_S1x128_S1x2_0_0 := by
  have e : Pipeline.withArrays spec0 c (V0 m c) (fun w => (dats m 0 c).arrAt w (cfgs 0).N) (Proc.devRef .tc (Pipeline.arrRef spec0 34)) = (fin m c : S1x128.Idx → Elt F .f32) :=
    (Pipeline.withArrays_arr_shared spec0 c (V0 m c) _ (fun w w' hne he => ((dats m 0 c).arrAt_in w (shared_in w w' hne he) _).trans (A_eq m c w)) 34).trans (arr_34 m c)
  unfold Pipeline.afterTail₀
  show StableHlo.after (hostOps1 : List (HloOp τ sig (Elt F))) _ _ = _
  after_results
  exact congrArg (fun a => extractStridedSlice S1x2 ![0, 0] a slices_S1x128_S1x2_0_0) e

/-- Every run ends with the result at the first two lanes of what the last step stores, the arguments unchanged. -/
theorem run_value (ρ : Dev nD → PrngReg) [Inhabited (F .f32)] : θ_run defs (onTc (τ := τ) (main (F := F))) ⟨m, fun _ => 0, ρ⟩ (fun r => ∀ c : Dev nD,
    r.2.mem ((c.tc : Thread nD τ).loc main_v20) = extractStridedSlice S1x2 ![0, 0] (fin m c : S1x128.Idx → Elt F .f32) slices_S1x128_S1x2_0_0 ∧ ArgsKept m r.2.mem c) :=
  (θ_run _ _ _).mono (fun r h c => ⟨((h.1 c).2 main_v20 (by decide +kernel)).trans (tail_out m c), args_kept m c r h.1⟩) (run_main m ρ)

end Cert.KernelIdeal.Hand
end
-- ==== Proof.V.Ref.lean ====
module
public import proofs.«01_k».proof.Proof.Gen.ReferenceIdeal.Run
public import proofs.«01_k».proof.Proof.V.Spec
public import Idealize.ShloMosaic.Lib.Pointwise
public import Idealize.ShloMosaic.Lib.Tactic.CleanTypes

@[expose] public section
set_option maxRecDepth 16384
noncomputable section

/-! The reference's terms, read at an index over the extended reals. -/
namespace Cert.ReferenceIdeal.Value
open Cert.ReferenceIdeal Cert.ReferenceIdeal.Gen
open Idealize.ShloMosaic Idealize.ShloMosaic.TcCoe Idealize.ShloMosaic.Tactic
open Cert.Val

variable (V0 : Valuation τ sig (Elt Ideal))

/-- A matrix as a function of row and column; a vector as a function of its place. -/
abbrev mx {a b : ℕ} (x : (⟨2, ![a, b]⟩ : Shape).Idx → EReal) : Fin a → Fin b → EReal := fun i j => x (ix2 i j)
abbrev vc {b : ℕ} (x : (⟨1, ![b]⟩ : Shape).Idx → EReal) : Fin b → EReal := fun j => x (ix1 j)

/-! The layers of the two encoders. -/

/-- Encoder 1: the first layer's sums. -/
theorem v4_at (i j) : res_main_v4 (F := Ideal) V0 (ix2 i j)
    = lin (mx (V0 (Proc.devRef .tc main_arg0))) (mx (V0 (Proc.devRef .tc main_arg4))) (vc (V0 (Proc.devRef .tc main_arg5))) i j := by
  unfold res_main_v4; clean_types
  unfold lin
  pointwise
/-- Encoder 1: the second layer's sums. -/
theorem v28_at (i j) : res_main_v28 (F := Ideal) V0 (ix2 i j)
    = lin (bnr (mx (res_main_v4 V0)) (vc (V0 (Proc.devRef .tc main_arg6))) (vc (V0 (Proc.devRef .tc main_arg7)))) (mx (V0 (Proc.devRef .tc main_arg8))) (vc (V0 (Proc.devRef .tc main_arg9))) i j := by
  unfold res_main_v28 res_main_call0_v5 res_main_call0_v8; clean_types
  unfold lin bnr var mean
  pointwise
  simp only [cN_sub, if_pos cN_pos]
/-- Encoder 1: the third layer's sums. -/
theorem v52_at (i j) : res_main_v52 (F := Ideal) V0 (ix2 i j)
    = lin (bnr (mx (res_main_v28 V0)) (vc (V0 (Proc.devRef .tc main_arg10))) (vc (V0 (Proc.devRef .tc main_arg11)))) (mx (V0 (Proc.devRef .tc main_arg12))) (vc (V0 (Proc.devRef .tc main_arg13))) i j := by
  unfold res_main_v52 res_main_call2_v5 res_main_call2_v8; clean_types
  unfold lin bnr var mean
  pointwise
  simp only [cN_sub, if_pos cN_pos]
/-- Encoder 1: the last normalisation. -/
theorem v71_at (i j) : res_main_v71 (F := Ideal) V0 (ix2 i j)
    = bnr (mx (res_main_v52 V0)) (vc (V0 (Proc.devRef .tc main_arg14))) (vc (V0 (Proc.devRef .tc main_arg15))) i j := by
  unfold res_main_v71 res_main_call4_v5 res_main_call4_v8; clean_types
  unfold bnr var mean
  pointwise
  simp only [cN_sub, if_pos cN_pos]
/-- Encoder 1's result, of the arguments. -/
def feat1 : Fin 2048 → Fin 64 → EReal :=
  enc (lin (mx (V0 (Proc.devRef .tc main_arg0))) (mx (V0 (Proc.devRef .tc main_arg4))) (vc (V0 (Proc.devRef .tc main_arg5)))) (vc (V0 (Proc.devRef .tc main_arg6))) (vc (V0 (Proc.devRef .tc main_arg7))) (mx (V0 (Proc.devRef .tc main_arg8))) (vc (V0 (Proc.devRef .tc main_arg9))) (vc (V0 (Proc.devRef .tc main_arg10))) (vc (V0 (Proc.devRef .tc main_arg11)))
    (mx (V0 (Proc.devRef .tc main_arg12))) (vc (V0 (Proc.devRef .tc main_arg13))) (vc (V0 (Proc.devRef .tc main_arg14))) (vc (V0 (Proc.devRef .tc main_arg15)))
/-- The reference's first encoder is that. -/
theorem feat1_eq : mx (res_main_v71 (F := Ideal) V0) = feat1 V0 := by
  have e4 : mx (res_main_v4 (F := Ideal) V0) = _ := funext fun i => funext fun j => v4_at V0 i j
  have e28 : mx (res_main_v28 (F := Ideal) V0) = _ := funext fun i => funext fun j => v28_at V0 i j
  have e52 : mx (res_main_v52 (F := Ideal) V0) = _ := funext fun i => funext fun j => v52_at V0 i j
  have e71 : mx (res_main_v71 (F := Ideal) V0) = _ := funext fun i => funext fun j => v71_at V0 i j
  rw [e71, e52, e28, e4]; rfl
/-- Encoder 2: the first layer's sums. -/
theorem v76_at (i j) : res_main_v76 (F := Ideal) V0 (ix2 i j)
    = lin (mx (V0 (Proc.devRef .tc main_arg1))) (mx (V0 (Proc.devRef .tc main_arg16))) (vc (V0 (Proc.devRef .tc main_arg17))) i j := by
  unfold res_main_v76; clean_types
  unfold lin
  pointwise
/-- Encoder 2: the second layer's sums. -/
theorem v100_at (i j) : res_main_v100 (F := Ideal) V0 (ix2 i j)
    = lin (bnr (mx (res_main_v76 V0)) (vc (V0 (Proc.devRef .tc main_arg18))) (vc (V0 (Proc.devRef .tc main_arg19)))) (mx (V0 (Proc.devRef .tc main_arg20))) (vc (V0 (Proc.devRef .tc main_arg21))) i j := by
  unfold res_main_v100 res_main_call6_v5 res_main_call6_v8; clean_types
  unfold lin bnr var mean
  pointwise
  simp only [cN_sub, if_pos cN_pos]
/-- Encoder 2: the third layer's sums. -/
theorem v124_at (i j) : res_main_v124 (F := Ideal) V0 (ix2 i j)
    = lin (bnr (mx (res_main_v100 V0)) (vc (V0 (Proc.devRef .tc main_arg22))) (vc (V0 (Proc.devRef .tc main_arg23)))) (mx (V0 (Proc.devRef .tc main_arg24))) (vc (V0 (Proc.devRef .tc main_arg25))) i j := by
  unfold res_main_v124 res_main_call8_v5 res_main_call8_v8; clean_types
  unfold lin bnr var mean
  pointwise
  simp only [cN_sub, if_pos cN_pos]
/-- Encoder 2: the last normalisation. -/
theorem v143_at (i j) : res_main_v143 (F := Ideal) V0 (ix2 i j)
    = bnr (mx (res_main_v124 V0)) (vc (V0 (Proc.devRef .tc main_arg26))) (vc (V0 (Proc.devRef .tc main_arg27))) i j := by
  unfold res_main_v143 res_main_call10_v5 res_main_call10_v8; clean_types
  unfold bnr var mean
  pointwise
  simp only [cN_sub, if_pos cN_pos]
/-- Encoder 2's result, of the arguments. -/
def feat2 : Fin 2048 → Fin 64 → EReal :=
  enc (lin (mx (V0 (Proc.devRef .tc main_arg1))) (mx (V0 (Proc.devRef .tc main_arg16))) (vc (V0 (Proc.devRef .tc main_arg17)))) (vc (V0 (Proc.devRef .tc main_arg18))) (vc (V0 (Proc.devRef .tc main_arg19))) (mx (V0 (Proc.devRef .tc main_arg20))) (vc (V0 (Proc.devRef .tc main_arg21))) (vc (V0 (Proc.devRef .tc main_arg22))) (vc (V0 (Proc.devRef .tc main_arg23)))
    (mx (V0 (Proc.devRef .tc main_arg24))) (vc (V0 (Proc.devRef .tc main_arg25))) (vc (V0 (Proc.devRef .tc main_arg26))) (vc (V0 (Proc.devRef .tc main_arg27)))
/-- The reference's second encoder is that. -/
theorem feat2_eq : mx (res_main_v143 (F := Ideal) V0) = feat2 V0 := by
  have e4 : mx (res_main_v76 (F := Ideal) V0) = _ := funext fun i => funext fun j => v76_at V0 i j
  have e28 : mx (res_main_v100 (F := Ideal) V0) = _ := funext fun i => funext fun j => v100_at V0 i j
  have e52 : mx (res_main_v124 (F := Ideal) V0) = _ := funext fun i => funext fun j => v124_at V0 i j
  have e71 : mx (res_main_v143 (F := Ideal) V0) = _ := funext fun i => funext fun j => v143_at V0 i j
  rw [e71, e52, e28, e4]; rfl

/-- The attention's results of the two graphs. -/
def new1 : Fin 2048 → Fin 64 → EReal := att (mx (V0 (Proc.devRef .tc main_arg2))) (mx (V0 (Proc.devRef .tc main_arg29))) (feat1 V0) ((V0 (Proc.devRef .tc main_arg28)) (ix2 0 0)) (feat1 V0)
def new2 : Fin 2048 → Fin 64 → EReal := att (mx (V0 (Proc.devRef .tc main_arg3))) (mx (V0 (Proc.devRef .tc main_arg29))) (feat2 V0) ((V0 (Proc.devRef .tc main_arg28)) (ix2 0 0)) (feat2 V0)
/-- Logit `s`. -/
def logit (s : Fin 2) : EReal :=
  ((∑ i : Fin 2048, ∑ k : Fin 64, new1 V0 i k * (V0 (Proc.devRef .tc main_arg31)) (ix2 s ⟨i.val * 64 + k.val, by have := i.isLt; have := k.isLt; omega⟩))
    + ∑ i : Fin 2048, ∑ k : Fin 64, new2 V0 i k * (V0 (Proc.devRef .tc main_arg31)) (ix2 s ⟨131072 + (i.val * 64 + k.val), by have := i.isLt; have := k.isLt; omega⟩))
    + (V0 (Proc.devRef .tc main_arg32)) (ix1 s)

/-- The reference's logits. -/
theorem v175_at (s : Fin 2) : res_main_v175 (F := Ideal) V0 (ix2 0 s) = logit V0 s := by
  unfold logit
  rw [← sum_cat (new1 V0) (new2 V0) (fun x => (V0 (Proc.devRef .tc main_arg31)) (ix2 s x))]
  unfold new1 new2 att
  rw [← feat1_eq, ← feat2_eq]
  unfold res_main_v175; clean_types
  pointwise
  simp only [msk_u]

/-- The logits' exponentials, the larger logit taken off. -/
theorem v182_at (s : Fin 2) : res_main_v182 (F := Ideal) V0 (ix2 0 s) = Ideal.exp (logit V0 s - max (logit V0 0) (logit V0 1)) := by
  unfold res_main_v182; clean_types
  pointwise
  simp only [v175_at, cBot]
  rw [fold_two]

/-- The reference's result, of the arguments. -/
abbrev result : (Proc.devRef .tc main_v186 : DevRef τ sig).ty.Contents (Elt Ideal) :=
  Host.divf (res_main_v182 V0) (broadcastInDim S1x2 ![0, 1] bcast_S1x1_S1x2_0_1 (broadcastInDim S1x1 ![0] bcast_S1_S1x1_0 (Host.reduceAdd (res_main_v182 V0) (constant S_ .f32 0x00000000#32) reducesTo_S1x2_S1_d1 h_S_)))
/-- The result's first lane: the softmax at the first logit. -/
theorem result_at0 : result V0 (ix2 0 0) = soft (logit V0 0) (logit V0 1) := by
  unfold result soft; clean_types
  pointwise
  simp only [v182_at, Fin.sum_univ_two]
/-- The second lane: the softmax at the second logit. -/
theorem result_at1 : result V0 (ix2 0 1) = soft (logit V0 1) (logit V0 0) := by
  unfold result soft; clean_types
  pointwise
  simp only [v182_at, Fin.sum_univ_two]
  rw [max_comm (logit V0 1), add_comm (Ideal.exp (logit V0 1 - _))]

end Cert.ReferenceIdeal.Value
end
-- ==== Proof.V.Agree.lean ====
module
public import proofs.«01_k».proof.Proof.V.Out
public import proofs.«01_k».proof.Proof.V.Ref

@[expose] public section
set_option maxRecDepth 16384
noncomputable section

/-! From the same arguments the two programs compute the same result. -/
namespace Cert.Val
open Idealize.ShloMosaic Idealize.ShloMosaic.TcCoe Idealize.ShloMosaic.Tactic
open Idealize.SL.Sem

/-- The two programs' logits are the same sums of the same arguments. -/
theorem logit_agree (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (e4 : V0 (Proc.devRef .tc Cert.ReferenceIdeal.main_arg4) = m ((c.tc : Thread Cert.KernelIdeal.nD Cert.KernelIdeal.τ).loc Cert.KernelIdeal.main_arg4))
    (e5 : V0 (Proc.devRef .tc Cert.ReferenceIdeal.main_arg5) = m ((c.tc : Thread Cert.KernelIdeal.nD Cert.KernelIdeal.τ).loc Cert.KernelIdeal.main_arg5))
    (e6 : V0 (Proc.devRef .tc Cert.ReferenceIdeal.main_arg6) = m ((c.tc : Thread Cert.KernelIdeal.nD Cert.KernelIdeal.τ).loc Cert.KernelIdeal.main_arg6))
    (e7 : V0 (Proc.devRef .tc Cert.ReferenceIdeal.main_arg7) = m ((c.tc : Thread Cert.KernelIdeal.nD Cert.KernelIdeal.τ).loc Cert.KernelIdeal.main_arg7))
    (e8 : V0 (Proc.devRef .tc Cert.ReferenceIdeal.main_arg8) = m ((c.tc : Thread Cert.KernelIdeal.nD Cert.KernelIdeal.τ).loc Cert.KernelIdeal.main_arg8))
    (e9 : V0 (Proc.devRef .tc Cert.ReferenceIdeal.main_arg9) = m ((c.tc : Thread Cert.KernelIdeal.nD Cert.KernelIdeal.τ).loc Cert.KernelIdeal.main_arg9))
    (e10 : V0 (Proc.devRef .tc Cert.ReferenceIdeal.main_arg10) = m ((c.tc : Thread Cert.KernelIdeal.nD Cert.KernelIdeal.τ).loc Cert.KernelIdeal.main_arg10))
    (e11 : V0 (Proc.devRef .tc Cert.ReferenceIdeal.main_arg11) = m ((c.tc : Thread Cert.KernelIdeal.nD Cert.KernelIdeal.τ).loc Cert.KernelIdeal.main_arg11))
    (e12 : V0 (Proc.devRef .tc Cert.ReferenceIdeal.main_arg12) = m ((c.tc : Thread Cert.KernelIdeal.nD Cert.KernelIdeal.τ).loc Cert.KernelIdeal.main_arg12))
    (e13 : V0 (Proc.devRef .tc Cert.ReferenceIdeal.main_arg13) = m ((c.tc : Thread Cert.KernelIdeal.nD Cert.KernelIdeal.τ).loc Cert.KernelIdeal.main_arg13))
    (e14 : V0 (Proc.devRef .tc Cert.ReferenceIdeal.main_arg14) = m ((c.tc : Thread Cert.KernelIdeal.nD Cert.KernelIdeal.τ).loc Cert.KernelIdeal.main_arg14))
    (e15 : V0 (Proc.devRef .tc Cert.ReferenceIdeal.main_arg15) = m ((c.tc : Thread Cert.KernelIdeal.nD Cert.KernelIdeal.τ).loc Cert.KernelIdeal.main_arg15))
    (e16 : V0 (Proc.devRef .tc Cert.ReferenceIdeal.main_arg16) = m ((c.tc : Thread Cert.KernelIdeal.nD Cert.KernelIdeal.τ).loc Cert.KernelIdeal.main_arg16))
    (e17 : V0 (Proc.devRef .tc Cert.ReferenceIdeal.main_arg17) = m ((c.tc : Thread Cert.KernelIdeal.nD Cert.KernelIdeal.τ).loc Cert.KernelIdeal.main_arg17))
    (e18 : V0 (Proc.devRef .tc Cert.ReferenceIdeal.main_arg18) = m ((c.tc : Thread Cert.KernelIdeal.nD Cert.KernelIdeal.τ).loc Cert.KernelIdeal.main_arg18))
    (e19 : V0 (Proc.devRef .tc Cert.ReferenceIdeal.main_arg19) = m ((c.tc : Thread Cert.KernelIdeal.nD Cert.KernelIdeal.τ).loc Cert.KernelIdeal.main_arg19))
    (e20 : V0 (Proc.devRef .tc Cert.ReferenceIdeal.main_arg20) = m ((c.tc : Thread Cert.KernelIdeal.nD Cert.KernelIdeal.τ).loc Cert.KernelIdeal.main_arg20))
    (e21 : V0 (Proc.devRef .tc Cert.ReferenceIdeal.main_arg21) = m ((c.tc : Thread Cert.KernelIdeal.nD Cert.KernelIdeal.τ).loc Cert.KernelIdeal.main_arg21))
    (e22 : V0 (Proc.devRef .tc Cert.ReferenceIdeal.main_arg22) = m ((c.tc : Thread Cert.KernelIdeal.nD Cert.KernelIdeal.τ).loc Cert.KernelIdeal.main_arg22))
    (e23 : V0 (Proc.devRef .tc Cert.ReferenceIdeal.main_arg23) = m ((c.tc : Thread Cert.KernelIdeal.nD Cert.KernelIdeal.τ).loc Cert.KernelIdeal.main_arg23))
    (e24 : V0 (Proc.devRef .tc Cert.ReferenceIdeal.main_arg24) = m ((c.tc : Thread Cert.KernelIdeal.nD Cert.KernelIdeal.τ).loc Cert.KernelIdeal.main_arg24))
    (e25 : V0 (Proc.devRef .tc Cert.ReferenceIdeal.main_arg25) = m ((c.tc : Thread Cert.KernelIdeal.nD Cert.KernelIdeal.τ).loc Cert.KernelIdeal.main_arg25))
    (e26 : V0 (Proc.devRef .tc Cert.ReferenceIdeal.main_arg26) = m ((c.tc : Thread Cert.KernelIdeal.nD Cert.KernelIdeal.τ).loc Cert.KernelIdeal.main_arg26))
    (e27 : V0 (Proc.devRef .tc Cert.ReferenceIdeal.main_arg27) = m ((c.tc : Thread Cert.KernelIdeal.nD Cert.KernelIdeal.τ).loc Cert.KernelIdeal.main_arg27))
    (e28 : V0 (Proc.devRef .tc Cert.ReferenceIdeal.main_arg28) = m ((c.tc : Thread Cert.KernelIdeal.nD Cert.KernelIdeal.τ).loc Cert.KernelIdeal.main_arg28))
    (e29 : V0 (Proc.devRef .tc Cert.ReferenceIdeal.main_arg29) = m ((c.tc : Thread Cert.KernelIdeal.nD Cert.KernelIdeal.τ).loc Cert.KernelIdeal.main_arg29))
    (e31 : V0 (Proc.devRef .tc Cert.ReferenceIdeal.main_arg31) = m ((c.tc : Thread Cert.KernelIdeal.nD Cert.KernelIdeal.τ).loc Cert.KernelIdeal.main_arg31))
    (e32 : V0 (Proc.devRef .tc Cert.ReferenceIdeal.main_arg32) = m ((c.tc : Thread Cert.KernelIdeal.nD Cert.KernelIdeal.τ).loc Cert.KernelIdeal.main_arg32)) (s : Fin 2) :
    Cert.ReferenceIdeal.Value.logit V0 s = Cert.KernelIdeal.Hand.klogit m c s := by
  unfold Cert.ReferenceIdeal.Value.logit Cert.ReferenceIdeal.Value.new1 Cert.ReferenceIdeal.Value.new2 Cert.ReferenceIdeal.Value.feat1 Cert.ReferenceIdeal.Value.feat2
  rw [e0, e1, e2, e3, e4, e5, e6, e7, e8, e9, e10, e11, e12, e13, e14, e15, e16, e17, e18, e19, e20, e21, e22, e23, e24, e25, e26, e27, e28, e29, e31, e32]
  rfl

/-- The first two lanes of a row. -/
theorem cut_at (x : (⟨2, ![1, 128]⟩ : Shape).Idx → EReal) (h) (b : Fin 2) :
    extractStridedSlice ⟨2, ![1, 2]⟩ ![0, 0] x h (ix2 0 b) = x (ix2 0 ⟨b.val, by omega⟩) := by
  pointwise

/-- With the same logits the reference's result is what the kernel's run leaves. -/
theorem result_agree (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h : ∀ s, Cert.ReferenceIdeal.Value.logit V0 s = Cert.KernelIdeal.Hand.klogit m c s) :
    (Cert.ReferenceIdeal.Value.result V0 : (⟨2, ![1, 2]⟩ : Shape).Idx → EReal)
      = extractStridedSlice Cert.KernelIdeal.S1x2 ![0, 0] (Cert.KernelIdeal.Hand.fin (F := Ideal) m c : Cert.KernelIdeal.S1x128.Idx → Elt Ideal .f32) Cert.KernelIdeal.Gen.slices_S1x128_S1x2_0_0 := by
  funext j
  obtain ⟨a, b, rfl⟩ : ∃ (a : Fin 1) (b : Fin 2), j = ix2 a b := ⟨j 0, j 1, eq_ix2 j⟩
  obtain rfl : a = 0 := Subsingleton.elim _ _
  refine Eq.trans ?_ (cut_at _ _ b).symm
  rcases (by omega : b = 0 ∨ b = 1) with rfl | rfl
  · exact ((Cert.ReferenceIdeal.Value.result_at0 V0).trans (congrArg₂ soft (h 0) (h 1))).trans (Cert.KernelIdeal.Hand.fin_at0 m c).symm
  · exact ((Cert.ReferenceIdeal.Value.result_at1 V0).trans (congrArg₂ soft (h 1) (h 0))).trans (Cert.KernelIdeal.Hand.fin_at1 m c).symm

end Cert.Val
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.V.Agree

@[expose] public section

set_option maxRecDepth 16384

noncomputable section

namespace Cert.Proof

open Idealize.ShloMosaic Idealize.SL.Sem

/-- Every run of the kernel ends, with its arguments as they were and every counter at zero. -/
theorem frame_p : Cert.quiescent_Kernel (hKernel := Cert.Kernel.Gen.facts) :=
  fun m g _ => Cert.Kernel.Hand.frame_kept (F := Bits) m g

/-- Every run of the kernel's idealization ends, with its arguments as they were and every counter at zero. -/
theorem frame_pi : Cert.quiescent_KernelIdeal (hKernelIdeal := Cert.KernelIdeal.Gen.facts) :=
  fun m g _ => Cert.KernelIdeal.Hand.frame_kept (F := Ideal) m g

/-- Every run of the reference ends, with its arguments as they were; it declares no semaphore. -/
theorem frame_ri : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From the same arguments the kernel's idealization and the reference's end with the same result. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, Cert.KernelIdeal.Hand.run_value (F := Ideal) m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7, a8, a9, a10, a11, a12, a13, a14, a15, a16, a17, a18, a19, a20, a21, a22, a23, a24, a25, a26, a27, a28, a29, a30, a31, a32⟩ := hagree c
  exact Cert.Val.result_agree m c _ fun s => Cert.Val.logit_agree m c _ a0 a1 a2 a3 a4 a5 a6 a7 a8 a9 a10 a11 a12 a13 a14 a15 a16 a17 a18 a19 a20 a21 a22 a23 a24 a25 a26 a27 a28 a29 a31 a32 s

/-- Everything claimed. -/
theorem claim : Cert.Claim :=
  ⟨Cert.Kernel.Gen.facts, Cert.KernelIdeal.Gen.facts, Cert.ReferenceIdeal.Gen.facts, frame_p, frame_pi, frame_ri, trivial, algebraic⟩

end Cert.Proof
end
